-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.PackStatement Cert.KernelIdeal.S256x128
  ∧ IdealRules.bf16_pair.Statement Cert.KernelIdeal.S1x256x2x128 Cert.KernelIdeal.S1x256x1x128
  ∧ IdealRules.bf16_pair.Statement Cert.KernelIdeal.S1x255x2x128 Cert.KernelIdeal.S1x255x1x128

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S4x512x1280 : Shape := ⟨3, ![4, 512, 1280]⟩
abbrev S12x1280x640 : Shape := ⟨3, ![12, 1280, 640]⟩
abbrev S640 : Shape := ⟨1, ![640]⟩
abbrev S4x6x640 : Shape := ⟨3, ![4, 6, 640]⟩
abbrev S_ : Shape := ⟨0, ![]⟩

class Facts : Prop where
  bitsLt_bf16_f32 : FTy.bits .bf16 < FTy.bits .f32
  bcast_S_S4x512x1280 : S_.BroadcastsInDim S4x512x1280 (![] : Fin 0 → Fin S4x512x1280.rank)
  reducesTo_S4x512x1280_S_d0_1_2 : S4x512x1280.ReducesTo [0, 1, 2] S_
  h_S_ : 0 < S_.numel
  bcast_S_S640 : S_.BroadcastsInDim S640 (![] : Fin 0 → Fin S640.rank)
  reducesTo_S640_S_d0 : S640.ReducesTo [0] S_

variable [Facts]

def fn {F : FTy → Type} [FloatOps F] (main_arg0 : FVec F S4x512x1280 .bf16) (main_arg1 : FVec F S12x1280x640 .fp8e4m3) (main_arg2 : FVec F S640 .f32) (main_arg3 : FVec F S640 .f32) (main_arg4 : FVec F S4x6x640 .f32) : IVec S_ 1 :=
  let main_v0 : FVec F S4x512x1280 .f32 := (extf .f32 · bitsLt_bf16_f32) main_arg0
  let main_v1 : FVec F S4x512x1280 .f32 := Host.absf main_v0
  let main_cst : FVec F S_ .f32 := constant S_ .f32 0x7F7F0000#32
  let main_v2 : FVec F S4x512x1280 .f32 := broadcastInDim S4x512x1280 ![] bcast_S_S4x512x1280 main_cst
  let main_v3 : IVec S4x512x1280 1 := cmpf .ole main_v1 main_v2
  let main_c : IVec S_ 1 := constantI S_ 1 1#1
  let main_v4 : IVec S_ 1 := (fun x v => Host.reduce IntOp.andi x v reducesTo_S4x512x1280_S_d0_1_2 h_S_) main_v3 main_c
  let main_cst_0 : FVec F S_ .f32 := constant S_ .f32 0x00000000#32
  let main_v5 : FVec F S640 .f32 := broadcastInDim S640 ![] bcast_S_S640 main_cst_0
  let main_v6 : IVec S640 1 := cmpf .oge main_arg2 main_v5
  let main_cst_1 : FVec F S_ .f32 := constant S_ .f32 0x7F800000#32
  let main_v7 : FVec F S640 .f32 := broadcastInDim S640 ![] bcast_S_S640 main_cst_1
  let main_v8 : IVec S640 1 := cmpf .olt main_arg2 main_v7
  let main_v9 : IVec S640 1 := andi main_v6 main_v8
  let main_c_2 : IVec S_ 1 := constantI S_ 1 1#1
  let main_v10 : IVec S_ 1 := (fun x v => Host.reduce IntOp.andi x v reducesTo_S640_S_d0 h_S_) main_v9 main_c_2
  let main_v11 : IVec S_ 1 := andi main_v4 main_v10
  main_v11
-- ==== Kernel.lean ====
abbrev S4x512x1280 : Shape := ⟨3, ![4, 512, 1280]⟩
abbrev S12x1280x640 : Shape := ⟨3, ![12, 1280, 640]⟩
abbrev S640 : Shape := ⟨1, ![640]⟩
abbrev S4x6x640 : Shape := ⟨3, ![4, 6, 640]⟩
abbrev S1x640 : Shape := ⟨2, ![1, 640]⟩
abbrev S4x3066x640 : Shape := ⟨3, ![4, 3066, 640]⟩
abbrev S4x1x512 : Shape := ⟨3, ![4, 1, 512]⟩
abbrev S1x512x1280 : Shape := ⟨3, ![1, 512, 1280]⟩
abbrev S12x1280x128 : Shape := ⟨3, ![12, 1280, 128]⟩
abbrev S1x128 : Shape := ⟨2, ![1, 128]⟩
abbrev S1x6x128 : Shape := ⟨3, ![1, 6, 128]⟩
abbrev S1x3066x128 : Shape := ⟨3, ![1, 3066, 128]⟩
abbrev S1x1x512 : Shape := ⟨3, ![1, 1, 512]⟩
abbrev S512x1280 : Shape := ⟨2, ![512, 1280]⟩
abbrev S512x128 : Shape := ⟨2, ![512, 128]⟩
abbrev S8x128 : Shape := ⟨2, ![8, 128]⟩
abbrev S1x128x1280 : Shape := ⟨3, ![1, 128, 1280]⟩
abbrev S128x1280 : Shape := ⟨2, ![128, 1280]⟩
abbrev S128 : Shape := ⟨1, ![128]⟩
abbrev S128x1 : Shape := ⟨2, ![128, 1]⟩
abbrev S128x128 : Shape := ⟨2, ![128, 128]⟩
abbrev S1x1x128 : Shape := ⟨3, ![1, 1, 128]⟩
abbrev S511x1280 : Shape := ⟨2, ![511, 1280]⟩
abbrev S1x1280 : Shape := ⟨2, ![1, 1280]⟩
abbrev S511x128 : Shape := ⟨2, ![511, 128]⟩
abbrev S1x1280x128 : Shape := ⟨3, ![1, 1280, 128]⟩
abbrev S1280x128 : Shape := ⟨2, ![1280, 128]⟩
abbrev S1280x256 : Shape := ⟨2, ![1280, 256]⟩
abbrev S256x1280 : Shape := ⟨2, ![256, 1280]⟩
abbrev S256x256 : Shape := ⟨2, ![256, 256]⟩
abbrev S1x256x1280 : Shape := ⟨3, ![1, 256, 1280]⟩
abbrev S256x128 : Shape := ⟨2, ![256, 128]⟩
abbrev S1x1533x128 : Shape := ⟨3, ![1, 1533, 128]⟩
abbrev S1x256x128 : Shape := ⟨3, ![1, 256, 128]⟩
abbrev S1x1533x2x128 : Shape := ⟨4, ![1, 1533, 2, 128]⟩
abbrev S1x256x2x128 : Shape := ⟨4, ![1, 256, 2, 128]⟩
abbrev S1x256x1x128 : Shape := ⟨4, ![1, 256, 1, 128]⟩
abbrev S255x128 : Shape := ⟨2, ![255, 128]⟩
abbrev S1x255x128 : Shape := ⟨3, ![1, 255, 128]⟩
abbrev S1x255x2x128 : Shape := ⟨4, ![1, 255, 2, 128]⟩
abbrev S1x255x1x128 : Shape := ⟨4, ![1, 255, 1, 128]⟩
abbrev S6x128 : Shape := ⟨2, ![6, 128]⟩

abbrev nBuf : Space → Nat
  | .hbm => 12
  | .vmem => 24
  | .smem => 0
  | _ => 0

abbrev bufTy : (tb : Table) → Fin (tcTables nBuf tb) → BufTy
  | .hbm, ⟨0, _⟩ => ⟨S4x512x1280, .bf16⟩
  | .hbm, ⟨1, _⟩ => ⟨S12x1280x640, .fp8e4m3⟩
  | .hbm, ⟨2, _⟩ => ⟨S640, .f32⟩
  | .hbm, ⟨3, _⟩ => ⟨S640, .f32⟩
  | .hbm, ⟨4, _⟩ => ⟨S4x6x640, .f32⟩
  | .hbm, ⟨5, _⟩ => ⟨S1x640, .f32⟩
  | .hbm, ⟨6, _⟩ => ⟨S1x640, .f32⟩
  | .hbm, ⟨7, _⟩ => ⟨S4x6x640, .bf16⟩
  | .hbm, ⟨8, _⟩ => ⟨S4x3066x640, .bf16⟩
  | .hbm, ⟨9, _⟩ => ⟨S4x6x640, .f32⟩
  | .hbm, ⟨10, _⟩ => ⟨S4x512x1280, .fp8e4m3⟩
  | .hbm, ⟨11, _⟩ => ⟨S4x1x512, .f32⟩
  | .local _ .vmem, ⟨0, _⟩ => ⟨S1x512x1280, .bf16⟩
  | .local _ .vmem, ⟨1, _⟩ => ⟨S1x512x1280, .bf16⟩
  | .local _ .vmem, ⟨2, _⟩ => ⟨S12x1280x128, .fp8e4m3⟩
  | .local _ .vmem, ⟨3, _⟩ => ⟨S12x1280x128, .fp8e4m3⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x6x128, .f32⟩
  | .local _ .vmem, ⟨9, _⟩ => ⟨S1x6x128, .f32⟩
  | .local _ .vmem, ⟨10, _⟩ => ⟨S1x6x128, .bf16⟩
  | .local _ .vmem, ⟨11, _⟩ => ⟨S1x6x128, .bf16⟩
  | .local _ .vmem, ⟨12, _⟩ => ⟨S1x3066x128, .bf16⟩
  | .local _ .vmem, ⟨13, _⟩ => ⟨S1x3066x128, .bf16⟩
  | .local _ .vmem, ⟨14, _⟩ => ⟨S1x6x128, .f32⟩
  | .local _ .vmem, ⟨15, _⟩ => ⟨S1x6x128, .f32⟩
  | .local _ .vmem, ⟨16, _⟩ => ⟨S1x512x1280, .fp8e4m3⟩
  | .local _ .vmem, ⟨17, _⟩ => ⟨S1x512x1280, .fp8e4m3⟩
  | .local _ .vmem, ⟨18, _⟩ => ⟨S1x1x512, .f32⟩
  | .local _ .vmem, ⟨19, _⟩ => ⟨S1x1x512, .f32⟩
  | .local _ .vmem, ⟨20, _⟩ => ⟨S512x1280, .fp8e4m3⟩
  | .local _ .vmem, ⟨21, _⟩ => ⟨S512x128, .f32⟩
  | .local _ .vmem, ⟨22, _⟩ => ⟨S512x128, .f32⟩
  | .local _ .vmem, ⟨23, _⟩ => ⟨S8x128, .f32⟩
  | _, _ => ⟨S4x512x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [BitOps F]

abbrev grid0 : Pipeline.Grid := ⟨2, ![4, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S12x1280x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x6x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x6x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x3066x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x6x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1280 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== KernelIdeal.lean ====
variable {F : FTy → Type} [FloatOps F]
-- ==== ReferenceIdeal.lean ====
abbrev S4x512x1280 : Shape := ⟨3, ![4, 512, 1280]⟩
abbrev S12x1280x640 : Shape := ⟨3, ![12, 1280, 640]⟩
abbrev S640 : Shape := ⟨1, ![640]⟩
abbrev S4x6x640 : Shape := ⟨3, ![4, 6, 640]⟩
abbrev S4x3066x640 : Shape := ⟨3, ![4, 3066, 640]⟩
abbrev S4x1x512 : Shape := ⟨3, ![4, 1, 512]⟩
abbrev S4x512 : Shape := ⟨2, ![4, 512]⟩
abbrev S4x512x1 : Shape := ⟨3, ![4, 512, 1]⟩
abbrev S2048x1280 : Shape := ⟨2, ![2048, 1280]⟩
abbrev S1x1280x640 : Shape := ⟨3, ![1, 1280, 640]⟩
abbrev S1280x640 : Shape := ⟨2, ![1280, 640]⟩
abbrev S2048x640 : Shape := ⟨2, ![2048, 640]⟩
abbrev S4x512x640 : Shape := ⟨3, ![4, 512, 640]⟩
abbrev S4x512x1x640 : Shape := ⟨4, ![4, 512, 1, 640]⟩
abbrev S4x512x12x640 : Shape := ⟨4, ![4, 512, 12, 640]⟩
abbrev S4x512x1x1 : Shape := ⟨4, ![4, 512, 1, 1]⟩
abbrev S1x1x1x640 : Shape := ⟨4, ![1, 1, 1, 640]⟩
abbrev S4x512x6x640 : Shape := ⟨4, ![4, 512, 6, 640]⟩
abbrev S4x1x6x640 : Shape := ⟨4, ![4, 1, 6, 640]⟩
abbrev S1x1x640 : Shape := ⟨3, ![1, 1, 640]⟩
abbrev S4x511x6x640 : Shape := ⟨4, ![4, 511, 6, 640]⟩

abbrev nBuf : Space → Nat
  | .hbm => 10
  | .vmem => 10
  | .smem => 0
  | _ => 0

abbrev bufTy : (tb : Table) → Fin (tcTables nBuf tb) → BufTy
  | .hbm, ⟨0, _⟩ => ⟨S4x512x1280, .bf16⟩
  | .hbm, ⟨1, _⟩ => ⟨S12x1280x640, .fp8e4m3⟩
  | .hbm, ⟨2, _⟩ => ⟨S640, .f32⟩
  | .hbm, ⟨3, _⟩ => ⟨S640, .f32⟩
  | .hbm, ⟨4, _⟩ => ⟨S4x6x640, .f32⟩
  | .hbm, ⟨5, _⟩ => ⟨S4x6x640, .bf16⟩
  | .hbm, ⟨6, _⟩ => ⟨S4x3066x640, .bf16⟩
  | .hbm, ⟨7, _⟩ => ⟨S4x6x640, .f32⟩
  | .hbm, ⟨8, _⟩ => ⟨S4x512x1280, .fp8e4m3⟩
  | .hbm, ⟨9, _⟩ => ⟨S4x1x512, .f32⟩
  | .local _ .vmem, ⟨0, _⟩ => ⟨S4x512x1280, .bf16⟩
  | .local _ .vmem, ⟨1, _⟩ => ⟨S12x1280x640, .fp8e4m3⟩
  | .local _ .vmem, ⟨2, _⟩ => ⟨S640, .f32⟩
  | .local _ .vmem, ⟨3, _⟩ => ⟨S640, .f32⟩
  | .local _ .vmem, ⟨4, _⟩ => ⟨S4x6x640, .f32⟩
  | .local _ .vmem, ⟨5, _⟩ => ⟨S4x6x640, .bf16⟩
  | .local _ .vmem, ⟨6, _⟩ => ⟨S4x3066x640, .bf16⟩
  | .local _ .vmem, ⟨7, _⟩ => ⟨S4x6x640, .f32⟩
  | .local _ .vmem, ⟨8, _⟩ => ⟨S4x512x1280, .fp8e4m3⟩
  | .local _ .vmem, ⟨9, _⟩ => ⟨S4x1x512, .f32⟩
  | _, _ => ⟨S4x512x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S4x512x1280 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x1280x640 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x6x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x6x640 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x3066x640 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x6x640 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x512x1280 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KernelRuns.lean ====
/-
  The kernel as printed, at any float instance: the program up to its one region, the blocks of its windows, where a batch begins,
  and the names of its staging buffers and scratches.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.FrameRun

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      (Pipeline.RDat.FramePost.arr_in h c 4 rfl).trans ((hA c 4).trans (V_main_arg4 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 5) — by arithmetic of the point. -/
theorem hcond0_0 : ∀ t : Fin cfg0.N, cond0_0 (grid0.coords t) ↔ t.val % 5 = 0 :=
  (fun t => by
    have ht : t.val < 20 := Nat.lt_of_lt_of_eq t.isLt N_0
    have e0 : (grid0.coords t 0).val = t.val / 5 % 4 := Pipeline.Grid.coords_val t 0 (by decide) rfl
    have e1 : (grid0.coords t 1).val = t.val / 1 % 5 := Pipeline.Grid.coords_val t 1 (by decide) rfl
    simp only [cond0_0, k0_cond1, e0, e1]
    word_cmp
   : ∀ t : Fin grid0.N, cond0_0 (grid0.coords t) ↔ t.val % 5 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x512x1280 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S12x1280x128 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x6x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x6x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x3066x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x6x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512x1280 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x512 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S512x1280 .fp8e4m3 := Memref.whole cc0_scratch0
abbrev scM0_1 : Memref sig .tc .vmem S512x128 .f32 := Memref.whole cc0_scratch1
abbrev scM0_2 : Memref sig .tc .vmem S512x128 .f32 := Memref.whole cc0_scratch2
abbrev scM0_3 : Memref sig .tc .vmem S8x128 .f32 := Memref.whole cc0_scratch3
/-- The scratch `arg12` the kernel carries between points, as a view: what it holds is stated through it. -/
abbrev VS0_0 : View sig .tc .vmem S512x1280 .fp8e4m3 := scM0_0.view
/-- The scratch `arg14` the kernel carries between points, as a view: what it holds is stated through it. -/
abbrev VS0_2 : View sig .tc .vmem S512x128 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.FrameRun

end
-- ==== Proof.KernelRunFirst.lean ====
/-
  The kernel as printed: the run of its body at a grid point at which a batch begins.
-/
module

public import proofs.«01_k».proof.Proof.KernelRuns

@[expose] public section

-- membership in a rectangle of production extents (`View.cover_of_tiled`): the elaborator's structural look
-- recurses once per coordinate of the long axes
set_option maxRecDepth 16384

noncomputable section

namespace Cert.Kernel.FrameRun

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken: points 0, 5, 10, 15), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (5, 6, 7, 8, 9) at anything, handed back at some contents nothing names. -/
noncomputable def kernelRun0_A (c : Dev nD) (i : grid0.Coords) (arg2 : Memref sig .tc .vmem S1x512x1280 .bf16) (harg2 : arg2.IsWhole) (arg3 : Memref sig .tc .vmem S12x1280x128 .fp8e4m3) (harg3 : arg3.IsWhole) (arg4 : Memref sig .tc .vmem S1x128 .f32) (harg4 : arg4.IsWhole) (arg5 : Memref sig .tc .vmem S1x128 .f32) (harg5 : arg5.IsWhole) (arg6 : Memref sig .tc .vmem S1x6x128 .f32) (harg6 : arg6.IsWhole) (arg7 : Memref sig .tc .vmem S1x6x128 .bf16) (harg7 : arg7.IsWhole) (arg8 : Memref sig .tc .vmem S1x3066x128 .bf16) (harg8 : arg8.IsWhole) (arg9 : Memref sig .tc .vmem S1x6x128 .f32) (harg9 : arg9.IsWhole) (arg10 : Memref sig .tc .vmem S1x512x1280 .fp8e4m3) (harg10 : arg10.IsWhole) (arg11 : Memref sig .tc .vmem S1x1x512 .f32) (harg11 : arg11.IsWhole) (arg12 : Memref sig .tc .vmem S512x1280 .fp8e4m3) (harg12 : arg12.IsWhole) (arg13 : Memref sig .tc .vmem S512x128 .f32) (harg13 : arg13.IsWhole) (arg14 : Memref sig .tc .vmem S512x128 .f32) (harg14 : arg14.IsWhole) (arg15 : Memref sig .tc .vmem S8x128 .f32) (harg15 : arg15.IsWhole) (hc0 : cond0_0 i)
    (x0 : Vec F S1x512x1280 .bf16) (x1 : Vec F S12x1280x128 .fp8e4m3) (x2 : Vec F S1x128 .f32) (x3 : Vec F S1x128 .f32) (x4 : Vec F S1x6x128 .f32) :
    Σ' (LS0 : List (View.Piece (Elt F) S512x1280 .fp8e4m3)), Σ' (LS2 : List (View.Piece (Elt F) S512x128 .f32)), { LT1 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LT1) ∗ (∃ f, arg14.view.loc (c : Thread nD τ) ↦[arg14.view.set]{fullShare} arg14.view.writes (Elt F) f LS2) ∗ (∃ d, owns (c : Thread nD τ) arg15 fullShare d)) -∗ K ⟨⟩))
          ⊢ wp frame (wpE (defs₀ (F := F)) Variants.none c none) E (cc0_codec_upsample i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc0_codec_upsample_eq_skeleton]; unfold cc0_codec_upsample_skel
    simp only [k0_part11_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]; · iexists _; iexact HS0
    isplitl [HS1]; · iexists _; iexact HS1
    isplitl [HS2]; · iexists _; iexact HS2
    iexists _, _; isplitr; swap; · iexact HS3
    ipureintro; rfl

end Cert.Kernel.FrameRun

end
-- ==== Proof.KernelRunLater.lean ====
/-
  The kernel as printed: the run of its body at a later grid point of a batch.
-/
module

public import proofs.«01_k».proof.Proof.KernelRunFirst

@[expose] public section

-- membership in a rectangle of production extents (`View.cover_of_tiled`): the elaborator's structural look
-- recurses once per coordinate of the long axes
set_option maxRecDepth 16384

noncomputable section

namespace Cert.Kernel.FrameRun

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 19: 16 of 20), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (5, 6, 7, 8, 9) at anything, handed back at some contents nothing names. -/
noncomputable def kernelRun0_B (c : Dev nD) (i : grid0.Coords) (arg2 : Memref sig .tc .vmem S1x512x1280 .bf16) (harg2 : arg2.IsWhole) (arg3 : Memref sig .tc .vmem S12x1280x128 .fp8e4m3) (harg3 : arg3.IsWhole) (arg4 : Memref sig .tc .vmem S1x128 .f32) (harg4 : arg4.IsWhole) (arg5 : Memref sig .tc .vmem S1x128 .f32) (harg5 : arg5.IsWhole) (arg6 : Memref sig .tc .vmem S1x6x128 .f32) (harg6 : arg6.IsWhole) (arg7 : Memref sig .tc .vmem S1x6x128 .bf16) (harg7 : arg7.IsWhole) (arg8 : Memref sig .tc .vmem S1x3066x128 .bf16) (harg8 : arg8.IsWhole) (arg9 : Memref sig .tc .vmem S1x6x128 .f32) (harg9 : arg9.IsWhole) (arg10 : Memref sig .tc .vmem S1x512x1280 .fp8e4m3) (harg10 : arg10.IsWhole) (arg11 : Memref sig .tc .vmem S1x1x512 .f32) (harg11 : arg11.IsWhole) (arg12 : Memref sig .tc .vmem S512x1280 .fp8e4m3) (harg12 : arg12.IsWhole) (arg13 : Memref sig .tc .vmem S512x128 .f32) (harg13 : arg13.IsWhole) (arg14 : Memref sig .tc .vmem S512x128 .f32) (harg14 : arg14.IsWhole) (arg15 : Memref sig .tc .vmem S8x128 .f32) (harg15 : arg15.IsWhole) (hc0 : ¬cond0_0 i)
    (x0 : Vec F S1x512x1280 .bf16) (x1 : Vec F S12x1280x128 .fp8e4m3) (x2 : Vec F S1x128 .f32) (x3 : Vec F S1x128 .f32) (x4 : Vec F S1x6x128 .f32) (xs0 : Vec F S512x1280 .fp8e4m3) (xs2 : Vec F S512x128 .f32) :
    Σ' (LS0 : List (View.Piece (Elt F) S512x1280 .fp8e4m3)), Σ' (LS2 : List (View.Piece (Elt F) S512x128 .f32)), { LT1 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ (∃ d, owns (c : Thread nD τ) arg13 fullShare d) ∗ owns (c : Thread nD τ) arg14 fullShare xs2 ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ (∃ d, owns (c : Thread nD τ) arg13 fullShare d) ∗ owns (c : Thread nD τ) arg14 fullShare xs2 ∗ (∃ d, owns (c : Thread nD τ) arg15 fullShare d)) -∗ K ⟨⟩))
          ⊢ wp frame (wpE (defs₀ (F := F)) Variants.none c none) E (cc0_codec_upsample i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], [], [], fun E K => ?run⟩
  case run =>
    simp only [cc0_codec_upsample_eq_skeleton]; unfold cc0_codec_upsample_skel
    simp only [k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%fs0, %hfs0, HS0⟩, ⟨%ds1, %fs1, -, HS1⟩, ⟨%fs2, %hfs2, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg12.eq_unread hfs0; obtain rfl := harg14.eq_unread hfs2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _; isplitr; · ipureintro; exact harg12.read_unread _
      iexact HS0
    isplitl [HS1]
    · iexists _, _; isplitr; swap; · iexact HS1
      ipureintro; rfl
    isplitl [HS2]
    · iexists _; isplitr; · ipureintro; exact harg14.read_unread _
      iexact HS2
    iexists _, _; isplitr; swap; · iexact HS3
    ipureintro; rfl

end Cert.Kernel.FrameRun

end
-- ==== Proof.KernelFrame.lean ====
/-
  The kernel as printed: its frame, whatever its outputs hold. The program terminates, its arguments end unchanged, and every
  semaphore counter ends at zero.
-/
module

public import proofs.«01_k».proof.Proof.KernelRunLater
public import Idealize.ShloMosaic.Lib.Claim

@[expose] public section

-- membership in a rectangle of production extents (`View.cover_of_tiled`): the elaborator's structural look
-- recurses once per coordinate of the long axes
set_option maxRecDepth 16384

noncomputable section

namespace Cert.Kernel.FrameRun

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-- Case A's pieces for scratch `arg12`, which the kernel carries between points, cover it: 1 piece of `S512x1280` tiling it (Lib/Ring.lean `Piece.tiledL`). -/
theorem scover0_A_0 (c : Dev nD) (i : grid0.Coords) (arg2 : Memref sig .tc .vmem S1x512x1280 .bf16) (harg2 : arg2.IsWhole) (arg3 : Memref sig .tc .vmem S12x1280x128 .fp8e4m3) (harg3 : arg3.IsWhole) (arg4 : Memref sig .tc .vmem S1x128 .f32) (harg4 : arg4.IsWhole) (arg5 : Memref sig .tc .vmem S1x128 .f32) (harg5 : arg5.IsWhole) (arg6 : Memref sig .tc .vmem S1x6x128 .f32) (harg6 : arg6.IsWhole) (arg7 : Memref sig .tc .vmem S1x6x128 .bf16) (harg7 : arg7.IsWhole) (arg8 : Memref sig .tc .vmem S1x3066x128 .bf16) (harg8 : arg8.IsWhole) (arg9 : Memref sig .tc .vmem S1x6x128 .f32) (harg9 : arg9.IsWhole) (arg10 : Memref sig .tc .vmem S1x512x1280 .fp8e4m3) (harg10 : arg10.IsWhole) (arg11 : Memref sig .tc .vmem S1x1x512 .f32) (harg11 : arg11.IsWhole) (arg12 : Memref sig .tc .vmem S512x1280 .fp8e4m3) (harg12 : arg12.IsWhole) (arg13 : Memref sig .tc .vmem S512x128 .f32) (harg13 : arg13.IsWhole) (arg14 : Memref sig .tc .vmem S512x128 .f32) (harg14 : arg14.IsWhole) (arg15 : Memref sig .tc .vmem S8x128 .f32) (harg15 : arg15.IsWhole) (hc0 : cond0_0 i)
    (x0 : Vec F S1x512x1280 .bf16) (x1 : Vec F S12x1280x128 .fp8e4m3) (x2 : Vec F S1x128 .f32) (x3 : Vec F S1x128 .f32) (x4 : Vec F S1x6x128 .f32) (y : S512x1280.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4).1 S512x1280.size (by sl_kernel_rfl) y

/-- What case A leaves in scratch `arg12`: its pieces read back over junk. -/
def sout0_A_0 (c : Dev nD) (i : grid0.Coords) (arg2 : Memref sig .tc .vmem S1x512x1280 .bf16) (harg2 : arg2.IsWhole) (arg3 : Memref sig .tc .vmem S12x1280x128 .fp8e4m3) (harg3 : arg3.IsWhole) (arg4 : Memref sig .tc .vmem S1x128 .f32) (harg4 : arg4.IsWhole) (arg5 : Memref sig .tc .vmem S1x128 .f32) (harg5 : arg5.IsWhole) (arg6 : Memref sig .tc .vmem S1x6x128 .f32) (harg6 : arg6.IsWhole) (arg7 : Memref sig .tc .vmem S1x6x128 .bf16) (harg7 : arg7.IsWhole) (arg8 : Memref sig .tc .vmem S1x3066x128 .bf16) (harg8 : arg8.IsWhole) (arg9 : Memref sig .tc .vmem S1x6x128 .f32) (harg9 : arg9.IsWhole) (arg10 : Memref sig .tc .vmem S1x512x1280 .fp8e4m3) (harg10 : arg10.IsWhole) (arg11 : Memref sig .tc .vmem S1x1x512 .f32) (harg11 : arg11.IsWhole) (arg12 : Memref sig .tc .vmem S512x1280 .fp8e4m3) (harg12 : arg12.IsWhole) (arg13 : Memref sig .tc .vmem S512x128 .f32) (harg13 : arg13.IsWhole) (arg14 : Memref sig .tc .vmem S512x128 .f32) (harg14 : arg14.IsWhole) (arg15 : Memref sig .tc .vmem S8x128 .f32) (harg15 : arg15.IsWhole) (hc0 : cond0_0 i)
    (x0 : Vec F S1x512x1280 .bf16) (x1 : Vec F S12x1280x128 .fp8e4m3) (x2 : Vec F S1x128 .f32) (x3 : Vec F S1x128 .f32) (x4 : Vec F S1x6x128 .f32) : Vec F S512x1280 .fp8e4m3 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4).1)

/-- Case A's pieces for scratch `arg14`, which the kernel carries between points, cover it: 1 piece of `S512x128` tiling it (Lib/Ring.lean `Piece.tiledL`). -/
theorem scover0_A_2 (c : Dev nD) (i : grid0.Coords) (arg2 : Memref sig .tc .vmem S1x512x1280 .bf16) (harg2 : arg2.IsWhole) (arg3 : Memref sig .tc .vmem S12x1280x128 .fp8e4m3) (harg3 : arg3.IsWhole) (arg4 : Memref sig .tc .vmem S1x128 .f32) (harg4 : arg4.IsWhole) (arg5 : Memref sig .tc .vmem S1x128 .f32) (harg5 : arg5.IsWhole) (arg6 : Memref sig .tc .vmem S1x6x128 .f32) (harg6 : arg6.IsWhole) (arg7 : Memref sig .tc .vmem S1x6x128 .bf16) (harg7 : arg7.IsWhole) (arg8 : Memref sig .tc .vmem S1x3066x128 .bf16) (harg8 : arg8.IsWhole) (arg9 : Memref sig .tc .vmem S1x6x128 .f32) (harg9 : arg9.IsWhole) (arg10 : Memref sig .tc .vmem S1x512x1280 .fp8e4m3) (harg10 : arg10.IsWhole) (arg11 : Memref sig .tc .vmem S1x1x512 .f32) (harg11 : arg11.IsWhole) (arg12 : Memref sig .tc .vmem S512x1280 .fp8e4m3) (harg12 : arg12.IsWhole) (arg13 : Memref sig .tc .vmem S512x128 .f32) (harg13 : arg13.IsWhole) (arg14 : Memref sig .tc .vmem S512x128 .f32) (harg14 : arg14.IsWhole) (arg15 : Memref sig .tc .vmem S8x128 .f32) (harg15 : arg15.IsWhole) (hc0 : cond0_0 i)
    (x0 : Vec F S1x512x1280 .bf16) (x1 : Vec F S12x1280x128 .fp8e4m3) (x2 : Vec F S1x128 .f32) (x3 : Vec F S1x128 .f32) (x4 : Vec F S1x6x128 .f32) (y : S512x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4).2.1 S512x128.size (by sl_kernel_rfl) y

/-- What case A leaves in scratch `arg14`: its pieces read back over junk. -/
def sout0_A_2 (c : Dev nD) (i : grid0.Coords) (arg2 : Memref sig .tc .vmem S1x512x1280 .bf16) (harg2 : arg2.IsWhole) (arg3 : Memref sig .tc .vmem S12x1280x128 .fp8e4m3) (harg3 : arg3.IsWhole) (arg4 : Memref sig .tc .vmem S1x128 .f32) (harg4 : arg4.IsWhole) (arg5 : Memref sig .tc .vmem S1x128 .f32) (harg5 : arg5.IsWhole) (arg6 : Memref sig .tc .vmem S1x6x128 .f32) (harg6 : arg6.IsWhole) (arg7 : Memref sig .tc .vmem S1x6x128 .bf16) (harg7 : arg7.IsWhole) (arg8 : Memref sig .tc .vmem S1x3066x128 .bf16) (harg8 : arg8.IsWhole) (arg9 : Memref sig .tc .vmem S1x6x128 .f32) (harg9 : arg9.IsWhole) (arg10 : Memref sig .tc .vmem S1x512x1280 .fp8e4m3) (harg10 : arg10.IsWhole) (arg11 : Memref sig .tc .vmem S1x1x512 .f32) (harg11 : arg11.IsWhole) (arg12 : Memref sig .tc .vmem S512x1280 .fp8e4m3) (harg12 : arg12.IsWhole) (arg13 : Memref sig .tc .vmem S512x128 .f32) (harg13 : arg13.IsWhole) (arg14 : Memref sig .tc .vmem S512x128 .f32) (harg14 : arg14.IsWhole) (arg15 : Memref sig .tc .vmem S8x128 .f32) (harg15 : arg15.IsWhole) (hc0 : cond0_0 i)
    (x0 : Vec F S1x512x1280 .bf16) (x1 : Vec F S12x1280x128 .fp8e4m3) (x2 : Vec F S1x128 .f32) (x3 : Vec F S1x128 .f32) (x4 : Vec F S1x6x128 .f32) : Vec F S512x128 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4).2.1)

/-- Case B stores nothing into scratch `arg12`: it holds what the point before left. -/
def sout0_B_0 (c : Dev nD) (i : grid0.Coords) (arg2 : Memref sig .tc .vmem S1x512x1280 .bf16) (harg2 : arg2.IsWhole) (arg3 : Memref sig .tc .vmem S12x1280x128 .fp8e4m3) (harg3 : arg3.IsWhole) (arg4 : Memref sig .tc .vmem S1x128 .f32) (harg4 : arg4.IsWhole) (arg5 : Memref sig .tc .vmem S1x128 .f32) (harg5 : arg5.IsWhole) (arg6 : Memref sig .tc .vmem S1x6x128 .f32) (harg6 : arg6.IsWhole) (arg7 : Memref sig .tc .vmem S1x6x128 .bf16) (harg7 : arg7.IsWhole) (arg8 : Memref sig .tc .vmem S1x3066x128 .bf16) (harg8 : arg8.IsWhole) (arg9 : Memref sig .tc .vmem S1x6x128 .f32) (harg9 : arg9.IsWhole) (arg10 : Memref sig .tc .vmem S1x512x1280 .fp8e4m3) (harg10 : arg10.IsWhole) (arg11 : Memref sig .tc .vmem S1x1x512 .f32) (harg11 : arg11.IsWhole) (arg12 : Memref sig .tc .vmem S512x1280 .fp8e4m3) (harg12 : arg12.IsWhole) (arg13 : Memref sig .tc .vmem S512x128 .f32) (harg13 : arg13.IsWhole) (arg14 : Memref sig .tc .vmem S512x128 .f32) (harg14 : arg14.IsWhole) (arg15 : Memref sig .tc .vmem S8x128 .f32) (harg15 : arg15.IsWhole) (hc0 : ¬cond0_0 i)
    (x0 : Vec F S1x512x1280 .bf16) (x1 : Vec F S12x1280x128 .fp8e4m3) (x2 : Vec F S1x128 .f32) (x3 : Vec F S1x128 .f32) (x4 : Vec F S1x6x128 .f32) (xs0 : Vec F S512x1280 .fp8e4m3) (xs2 : Vec F S512x128 .f32) : Vec F S512x1280 .fp8e4m3 := xs0

/-- Case B stores nothing into scratch `arg14`: it holds what the point before left. -/
def sout0_B_2 (c : Dev nD) (i : grid0.Coords) (arg2 : Memref sig .tc .vmem S1x512x1280 .bf16) (harg2 : arg2.IsWhole) (arg3 : Memref sig .tc .vmem S12x1280x128 .fp8e4m3) (harg3 : arg3.IsWhole) (arg4 : Memref sig .tc .vmem S1x128 .f32) (harg4 : arg4.IsWhole) (arg5 : Memref sig .tc .vmem S1x128 .f32) (harg5 : arg5.IsWhole) (arg6 : Memref sig .tc .vmem S1x6x128 .f32) (harg6 : arg6.IsWhole) (arg7 : Memref sig .tc .vmem S1x6x128 .bf16) (harg7 : arg7.IsWhole) (arg8 : Memref sig .tc .vmem S1x3066x128 .bf16) (harg8 : arg8.IsWhole) (arg9 : Memref sig .tc .vmem S1x6x128 .f32) (harg9 : arg9.IsWhole) (arg10 : Memref sig .tc .vmem S1x512x1280 .fp8e4m3) (harg10 : arg10.IsWhole) (arg11 : Memref sig .tc .vmem S1x1x512 .f32) (harg11 : arg11.IsWhole) (arg12 : Memref sig .tc .vmem S512x1280 .fp8e4m3) (harg12 : arg12.IsWhole) (arg13 : Memref sig .tc .vmem S512x128 .f32) (harg13 : arg13.IsWhole) (arg14 : Memref sig .tc .vmem S512x128 .f32) (harg14 : arg14.IsWhole) (arg15 : Memref sig .tc .vmem S8x128 .f32) (harg15 : arg15.IsWhole) (hc0 : ¬cond0_0 i)
    (x0 : Vec F S1x512x1280 .bf16) (x1 : Vec F S12x1280x128 .fp8e4m3) (x2 : Vec F S1x128 .f32) (x3 : Vec F S1x128 .f32) (x4 : Vec F S1x6x128 .f32) (xs0 : Vec F S512x1280 .fp8e4m3) (xs2 : Vec F S512x128 .f32) : Vec F S512x128 .f32 := xs2

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x1280 .fp8e4m3 × Vec F S512x128 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 5 = 0 then
      (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2)

/-- `outsAt0` at a point of case A: that case's contents. -/
theorem outsAt0_A (c : Dev nD) (t : Fin cfg0.N) (h0 : t.val % 5 = 0) :
    outsAt0 m c t.val t.isLt = (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 5 = 0) :
    outsAt0 m c t.val t.isLt = (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).1) ∗ (∃ d, owns (c : Thread nD τ) scM0_1 fullShare d) ∗ owns (c : Thread nD τ) scM0_2 fullShare ((outsAt0 m c n hn).2) ∗ (∃ d, owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).1) ∗ (∃ d, owns (c : Thread nD τ) scM0_1 fullShare d) ∗ owns (c : Thread nD τ) scM0_2 fullShare ((outsAt0 m c n hn).2) ∗ (∃ d, owns (c : Thread nD τ) scM0_3 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).1) ∗ (∃ d, owns (c : Thread nD τ) scM0_1 fullShare d) ∗ owns (c : Thread nD τ) scM0_2 fullShare ((outsAt0 m c (n - 1) (by omega)).2) ∗ (∃ d, owns (c : Thread nD τ) scM0_3 fullShare d)) ∗ (∃ r, prngReg c r)) := by
  cases n with
  | zero => exact absurd rfl hz
  | succ n => rfl

/-! ## The pipeline's proof data -/

/-- The output windows this certificate FORGETS (5, 6, 7, 8, 9): nothing reads what the kernel leaves in them, so nothing
    of it is named (Lib/Pipeline/Dat.lean `Dat.toRForget`). -/
def forgets0 : Fin 10 → Bool := fun w => w.val == 5 || w.val == 6 || w.val == 7 || w.val == 8 || w.val == 9

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 20 := lt_of_lt_of_eq t.isLt (show cfg0.N = 20 from N_0)
  by_cases h0 : t.val % 5 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    by_cases hz : t.val = 0
    · rw [PhiS_castSucc m c t, PhiS_zero m c _ _ hz, PhiA0_eq]
      rw [outsAt0_A m c t h0]
      unfold sout0_A_0 sout0_A_2; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [H9]; · iexists _; iexact H9
      isplitl [HS0]; · iexact HS0
      isplitl [HS1]; · iexact HS1
      isplitl [HS2]; · iexact HS2
      isplitl [HS3]; · iexact HS3
      iintro ⟨H0, H1, H2, H3, H4, H5, H6, H7, H8, H9, ⟨%es0, HS0⟩, ⟨%fT1, HS1⟩, ⟨%es2, HS2⟩, HS3⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _)
          isplitl [HS1]
          · iexists _; unfold owns; iexists _; isplitr
            swap; · iexact HS1
            ipureintro; rfl
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _ _)
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · rw [PhiS_castSucc m c t, PhiS_pos m c _ _ hz]
      rw [outsAt0_A m c t h0]
      unfold sout0_A_0 sout0_A_2; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [H9]; · iexists _; iexact H9
      isplitl [HS0]; · iexists _; iexact HS0
      isplitl [HS1]; · iexact HS1
      isplitl [HS2]; · iexists _; iexact HS2
      isplitl [HS3]; · iexact HS3
      iintro ⟨H0, H1, H2, H3, H4, H5, H6, H7, H8, H9, ⟨%es0, HS0⟩, ⟨%fT1, HS1⟩, ⟨%es2, HS2⟩, HS3⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _)
          isplitl [HS1]
          · iexists _; unfold owns; iexists _; isplitr
            swap; · iexact HS1
            ipureintro; rfl
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _ _)
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    by_cases hz : t.val = 0
    · exfalso; have hN : t.val < 20 := lt_of_lt_of_eq t.isLt (show cfg0.N = 20 from N_0); omega
    · rw [PhiS_castSucc m c t, PhiS_pos m c _ _ hz]
      rw [outsAt0_B m c t h0]
      unfold sout0_B_0 sout0_B_2; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid0.coords t) _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) _ _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [H9]; · iexists _; iexact H9
      isplitl [HS0]; · iexact HS0
      isplitl [HS1]; · iexact HS1
      isplitl [HS2]; · iexact HS2
      isplitl [HS3]; · iexact HS3
      iintro ⟨H0, H1, H2, H3, H4, H5, H6, H7, H8, H9, HS0, HS1, HS2, HS3⟩
      isplitl [HS0 HS1 HS2 HS3 Hg]
      · isplitl [HS0 HS1 HS2 HS3]
        · isplitl [HS0]
          · iexact HS0
          isplitl [HS1]
          · iexact HS1
          isplitl [HS2]
          · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexact HS1
    isplitl [HS2]
    · iexists _; iexact HS2
    iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 20 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 5, 6, 7, 8, 9) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.FrameRun

end
-- ==== Proof.Stages.lean ====
module

public import proofs.«01_k».proof.Proof.Gen.KernelIdeal.Skeleton

@[expose] public section

set_option synthInstance.maxSize 4096
set_option maxRecDepth 16384

noncomputable section

namespace Cert.KernelIdeal.Gen

open Idealize.ShloMosaic Idealize.SL.Sem

variable {F : FTy → Type} [FloatOps F]

/-! The body in two stages. At the first channel block of a batch entry it quantises the batch entry (`quantise`); at every
channel block it then multiplies, from whatever the quantiser left (`products`). -/

/-- The first stage, run where the second grid coordinate is 0: the frames quantised 128 rows at a time, and the rotated
    copies of the codes and of the scales. -/
noncomputable def quantise (i : grid0.Coords) (arg2 : Memref sig .tc .vmem S1x512x1280 .bf16) (harg2 : arg2.IsWhole) (arg3 : Memref sig .tc .vmem S12x1280x128 .fp8e4m3) (harg3 : arg3.IsWhole) (arg4 : Memref sig .tc .vmem S1x128 .f32) (harg4 : arg4.IsWhole) (arg5 : Memref sig .tc .vmem S1x128 .f32) (harg5 : arg5.IsWhole) (arg6 : Memref sig .tc .vmem S1x6x128 .f32) (harg6 : arg6.IsWhole) (arg7 : Memref sig .tc .vmem S1x6x128 .bf16) (harg7 : arg7.IsWhole) (arg8 : Memref sig .tc .vmem S1x3066x128 .bf16) (harg8 : arg8.IsWhole) (arg9 : Memref sig .tc .vmem S1x6x128 .f32) (harg9 : arg9.IsWhole) (arg10 : Memref sig .tc .vmem S1x512x1280 .fp8e4m3) (harg10 : arg10.IsWhole) (arg11 : Memref sig .tc .vmem S1x1x512 .f32) (harg11 : arg11.IsWhole) (arg12 : Memref sig .tc .vmem S512x1280 .fp8e4m3) (harg12 : arg12.IsWhole) (arg13 : Memref sig .tc .vmem S512x128 .f32) (harg13 : arg13.IsWhole) (arg14 : Memref sig .tc .vmem S512x128 .f32) (harg14 : arg14.IsWhole) (arg15 : Memref sig .tc .vmem S8x128 .f32) (harg15 : arg15.IsWhole) :
    Prog (TpuEff nD τ sig (Elt F) Λ₀ .tc) PUnit := do
  let ⟨v315, v321, v357⟩ : Σ' (v315 : FVec F S128x1280 .bf16) (v321 : FVec F S128x1 .f32), IVec S128x1 32 ← k0_part1 i arg2 harg2 arg3 harg3 arg4 harg4 arg5 harg5 arg6 harg6 arg7 harg7 arg8 harg8 arg9 harg9 arg10 harg10 arg11 harg11 arg12 harg12 arg13 harg13 arg14 harg14 arg15 harg15
  let ⟨v389, v402⟩ : Σ' (v389 : FVec F S128x1 .f32), FVec F S128x1280 .fp8e4m3 ← k0_part2 i arg2 harg2 arg3 harg3 arg4 harg4 arg5 harg5 arg6 harg6 arg7 harg7 arg8 harg8 arg9 harg9 arg10 harg10 arg11 harg11 arg12 harg12 arg13 harg13 arg14 harg14 arg15 harg15 v315 v321 v357
  let ⟨v417, v423, v438, v440⟩ : Σ' (v417 : FVec F S128x1280 .bf16) (v423 : FVec F S128x1 .f32) (v438 : IVec S128x1 32), IVec S128x1 32 ← k0_part3 i arg2 harg2 arg3 harg3 arg4 harg4 arg5 harg5 arg6 harg6 arg7 harg7 arg8 harg8 arg9 harg9 arg10 harg10 arg11 harg11 arg12 harg12 arg13 harg13 arg14 harg14 arg15 harg15 v389 v402
  let v486 : IVec S128x1 32 ← k0_part4 i arg2 harg2 arg3 harg3 arg4 harg4 arg5 harg5 arg6 harg6 arg7 harg7 arg8 harg8 arg9 harg9 arg10 harg10 arg11 harg11 arg12 harg12 arg13 harg13 arg14 harg14 arg15 harg15 v423 v438 v440
  let ⟨v519, v523, v524⟩ : Σ' (v519 : FVec F S128x1280 .bf16) (v523 : FVec F S128x1 .f32), FVec F S128x1 .f32 ← k0_part5 i arg2 harg2 arg3 harg3 arg4 harg4 arg5 harg5 arg6 harg6 arg7 harg7 arg8 harg8 arg9 harg9 arg10 harg10 arg11 harg11 arg12 harg12 arg13 harg13 arg14 harg14 arg15 harg15 v417 v486
  let ⟨v525, v568, v570⟩ : Σ' (v525 : FVec F S128x1 .f32) (v568 : IVec S128x1 32), IVec S128x1 32 ← k0_part6 i arg2 harg2 arg3 harg3 arg4 harg4 arg5 harg5 arg6 harg6 arg7 harg7 arg8 harg8 arg9 harg9 arg10 harg10 arg11 harg11 arg12 harg12 arg13 harg13 arg14 harg14 arg15 harg15 v523 v524
  let ⟨v611, v612⟩ : Σ' (v611 : FVec F S128x128 .f32), Vec F S128x128 .f32 ← k0_part7 i arg2 harg2 arg3 harg3 arg4 harg4 arg5 harg5 arg6 harg6 arg7 harg7 arg8 harg8 arg9 harg9 arg10 harg10 arg11 harg11 arg12 harg12 arg13 harg13 arg14 harg14 arg15 harg15 v519 v525 v568 v570
  let ⟨v621, v627, v649, v651, v653⟩ : Σ' (v621 : FVec F S128x1280 .bf16) (v627 : FVec F S128x1 .f32) (v649 : IVec S128x1 32) (v651 : IVec S128x1 32), IVec S128x1 32 ← k0_part8 i arg2 harg2 arg3 harg3 arg4 harg4 arg5 harg5 arg6 harg6 arg7 harg7 arg8 harg8 arg9 harg9 arg10 harg10 arg11 harg11 arg12 harg12 arg13 harg13 arg14 harg14 arg15 harg15 v611 v612
  let ⟨v695, v697, v698⟩ : Σ' (v695 : FVec F S128x1 .f32) (v697 : IVec S128x1 32), IVec S128x1 32 ← k0_part9 i arg2 harg2 arg3 harg3 arg4 harg4 arg5 harg5 arg6 harg6 arg7 harg7 arg8 harg8 arg9 harg9 arg10 harg10 arg11 harg11 arg12 harg12 arg13 harg13 arg14 harg14 arg15 harg15 v627 v649 v651 v653
  let v733 : FVec F S512x128 .f32 ← k0_part10 i arg2 harg2 arg3 harg3 arg4 harg4 arg5 harg5 arg6 harg6 arg7 harg7 arg8 harg8 arg9 harg9 arg10 harg10 arg11 harg11 arg12 harg12 arg13 harg13 arg14 harg14 arg15 harg15 v621 v695 v697 v698
  Prog.lift (.store arg14 (Rect.unit (s := S512x128) ![0, 0] S512x128.size inb_S512x128_S512x128_0_0) (k0_pay46 v733) Finset.univ (View.stores_vmem_bits_univ h_S512x128 rfl) (.inl rfl))
  pure ⟨⟩

/-- The start of the second stage: what follows the first stage in `k0_part11`. -/
noncomputable def productsHead (i : grid0.Coords) (arg2 : Memref sig .tc .vmem S1x512x1280 .bf16) (harg2 : arg2.IsWhole) (arg3 : Memref sig .tc .vmem S12x1280x128 .fp8e4m3) (harg3 : arg3.IsWhole) (arg4 : Memref sig .tc .vmem S1x128 .f32) (harg4 : arg4.IsWhole) (arg5 : Memref sig .tc .vmem S1x128 .f32) (harg5 : arg5.IsWhole) (arg6 : Memref sig .tc .vmem S1x6x128 .f32) (harg6 : arg6.IsWhole) (arg7 : Memref sig .tc .vmem S1x6x128 .bf16) (harg7 : arg7.IsWhole) (arg8 : Memref sig .tc .vmem S1x3066x128 .bf16) (harg8 : arg8.IsWhole) (arg9 : Memref sig .tc .vmem S1x6x128 .f32) (harg9 : arg9.IsWhole) (arg10 : Memref sig .tc .vmem S1x512x1280 .fp8e4m3) (harg10 : arg10.IsWhole) (arg11 : Memref sig .tc .vmem S1x1x512 .f32) (harg11 : arg11.IsWhole) (arg12 : Memref sig .tc .vmem S512x1280 .fp8e4m3) (harg12 : arg12.IsWhole) (arg13 : Memref sig .tc .vmem S512x128 .f32) (harg13 : arg13.IsWhole) (arg14 : Memref sig .tc .vmem S512x128 .f32) (harg14 : arg14.IsWhole) (arg15 : Memref sig .tc .vmem S8x128 .f32) (harg15 : arg15.IsWhole) :
    Prog (TpuEff nD τ sig (Elt F) Λ₀ .tc) (Σ' (v4 : FVec F S1x128 .f32) (v6 : FVec F S1x128 .f32) (v11 : FVec F S1280x256 .fp8e4m3) (v16 : FVec F S1280x256 .fp8e4m3) (v18 : FVec F S256x256 .f32) (v21 : FVec F S256x256 .f32) (v22 : Vec F S256x128 .f32) (v23 : Vec F S256x128 .f32) (v26 : FVec F S256x128 .f32), FVec F S256x128 .f32) := do
  let v3 : Vec F S1x128 .f32 ← Prog.lift (.load arg4 (Rect.unit (s := S1x128) ![0, 0] S1x128.size inb_S1x128_S1x128_0_0).toLoadRect (View.loadsAt_vmem h_S1x128))
  let v5 : Vec F S1x128 .f32 ← Prog.lift (.load arg5 (Rect.unit (s := S1x128) ![0, 0] S1x128.size inb_S1x128_S1x128_0_0).toLoadRect (View.loadsAt_vmem h_S1x128))
  let v7 : Vec F S1x1280x128 .fp8e4m3 ← Prog.lift (.load arg3 (Rect.unit (s := S12x1280x128) ![0, 0, 0] S1x1280x128.size inb_S12x1280x128_S1x1280x128_0_0_0).toLoadRect (View.loadsAt_vmem h_S1x1280x128))
  let v9 : Vec F S1x1280x128 .fp8e4m3 ← Prog.lift (.load arg3 (Rect.unit (s := S12x1280x128) ![1, 0, 0] S1x1280x128.size inb_S12x1280x128_S1x1280x128_1_0_0).toLoadRect (View.loadsAt_vmem h_S1x1280x128))
  let v12 : Vec F S1x1280x128 .fp8e4m3 ← Prog.lift (.load arg3 (Rect.unit (s := S12x1280x128) ![6, 0, 0] S1x1280x128.size inb_S12x1280x128_S1x1280x128_6_0_0).toLoadRect (View.loadsAt_vmem h_S1x1280x128))
  let v14 : Vec F S1x1280x128 .fp8e4m3 ← Prog.lift (.load arg3 (Rect.unit (s := S12x1280x128) ![7, 0, 0] S1x1280x128.size inb_S12x1280x128_S1x1280x128_7_0_0).toLoadRect (View.loadsAt_vmem h_S1x1280x128))
  let v17 : Vec F S256x1280 .fp8e4m3 ← Prog.lift (.load arg12 (Rect.unit (s := S512x1280) ![0, 0] S256x1280.size inb_S512x1280_S256x1280_0_0).toLoadRect (View.loadsAt_vmem h_S256x1280))
  let v19 : Vec F S1x256x1280 .fp8e4m3 ← Prog.lift (.load arg10 (Rect.unit (s := S1x512x1280) ![0, 0, 0] S1x256x1280.size inb_S1x512x1280_S1x256x1280_0_0_0).toLoadRect (View.loadsAt_vmem h_S1x256x1280))
  let v22 : Vec F S256x128 .f32 ← Prog.lift (.load arg14 (Rect.unit (s := S512x128) ![0, 0] S256x128.size inb_S512x128_S256x128_0_0).toLoadRect (View.loadsAt_vmem h_S256x128))
  let v23 : Vec F S256x128 .f32 ← Prog.lift (.load arg13 (Rect.unit (s := S512x128) ![0, 0] S256x128.size inb_S512x128_S256x128_0_0).toLoadRect (View.loadsAt_vmem h_S256x128))
  pure ⟨k0_pay47 v3, k0_pay48 v5, k0_pay49 v7 v9, k0_pay50 v12 v14, k0_pay51 v7 v9 v17, k0_pay52 v12 v14 v19, v22, v23, k0_pay53 v7 v9 v17 v22, k0_pay54 v12 v14 v19 v23⟩

set_option maxRecDepth 65536 in
/-- Where the first stage's condition holds, `k0_part11` is the first stage, then the start of the second. -/
theorem part11_pos (i : grid0.Coords) (arg2 : Memref sig .tc .vmem S1x512x1280 .bf16) (harg2 : arg2.IsWhole) (arg3 : Memref sig .tc .vmem S12x1280x128 .fp8e4m3) (harg3 : arg3.IsWhole) (arg4 : Memref sig .tc .vmem S1x128 .f32) (harg4 : arg4.IsWhole) (arg5 : Memref sig .tc .vmem S1x128 .f32) (harg5 : arg5.IsWhole) (arg6 : Memref sig .tc .vmem S1x6x128 .f32) (harg6 : arg6.IsWhole) (arg7 : Memref sig .tc .vmem S1x6x128 .bf16) (harg7 : arg7.IsWhole) (arg8 : Memref sig .tc .vmem S1x3066x128 .bf16) (harg8 : arg8.IsWhole) (arg9 : Memref sig .tc .vmem S1x6x128 .f32) (harg9 : arg9.IsWhole) (arg10 : Memref sig .tc .vmem S1x512x1280 .fp8e4m3) (harg10 : arg10.IsWhole) (arg11 : Memref sig .tc .vmem S1x1x512 .f32) (harg11 : arg11.IsWhole) (arg12 : Memref sig .tc .vmem S512x1280 .fp8e4m3) (harg12 : arg12.IsWhole) (arg13 : Memref sig .tc .vmem S512x128 .f32) (harg13 : arg13.IsWhole) (arg14 : Memref sig .tc .vmem S512x128 .f32) (harg14 : arg14.IsWhole) (arg15 : Memref sig .tc .vmem S8x128 .f32) (harg15 : arg15.IsWhole) (h : k0_cond1 i = 1#1) :
    k0_part11 (F := F) i arg2 harg2 arg3 harg3 arg4 harg4 arg5 harg5 arg6 harg6 arg7 harg7 arg8 harg8 arg9 harg9 arg10 harg10 arg11 harg11 arg12 harg12 arg13 harg13 arg14 harg14 arg15 harg15
      = quantise i arg2 harg2 arg3 harg3 arg4 harg4 arg5 harg5 arg6 harg6 arg7 harg7 arg8 harg8 arg9 harg9 arg10 harg10 arg11 harg11 arg12 harg12 arg13 harg13 arg14 harg14 arg15 harg15 >>= fun _ => productsHead i arg2 harg2 arg3 harg3 arg4 harg4 arg5 harg5 arg6 harg6 arg7 harg7 arg8 harg8 arg9 harg9 arg10 harg10 arg11 harg11 arg12 harg12 arg13 harg13 arg14 harg14 arg15 harg15 := by
  rw [k0_part11_eq_skeleton]; unfold k0_part11_skel
  simp only [dif_pos h, quantise, bind_assoc, pure_bind]; rfl

set_option maxRecDepth 65536 in
/-- Where it does not hold, `k0_part11` is the start of the second stage. -/
theorem part11_neg (i : grid0.Coords) (arg2 : Memref sig .tc .vmem S1x512x1280 .bf16) (harg2 : arg2.IsWhole) (arg3 : Memref sig .tc .vmem S12x1280x128 .fp8e4m3) (harg3 : arg3.IsWhole) (arg4 : Memref sig .tc .vmem S1x128 .f32) (harg4 : arg4.IsWhole) (arg5 : Memref sig .tc .vmem S1x128 .f32) (harg5 : arg5.IsWhole) (arg6 : Memref sig .tc .vmem S1x6x128 .f32) (harg6 : arg6.IsWhole) (arg7 : Memref sig .tc .vmem S1x6x128 .bf16) (harg7 : arg7.IsWhole) (arg8 : Memref sig .tc .vmem S1x3066x128 .bf16) (harg8 : arg8.IsWhole) (arg9 : Memref sig .tc .vmem S1x6x128 .f32) (harg9 : arg9.IsWhole) (arg10 : Memref sig .tc .vmem S1x512x1280 .fp8e4m3) (harg10 : arg10.IsWhole) (arg11 : Memref sig .tc .vmem S1x1x512 .f32) (harg11 : arg11.IsWhole) (arg12 : Memref sig .tc .vmem S512x1280 .fp8e4m3) (harg12 : arg12.IsWhole) (arg13 : Memref sig .tc .vmem S512x128 .f32) (harg13 : arg13.IsWhole) (arg14 : Memref sig .tc .vmem S512x128 .f32) (harg14 : arg14.IsWhole) (arg15 : Memref sig .tc .vmem S8x128 .f32) (harg15 : arg15.IsWhole) (h : ¬k0_cond1 i = 1#1) :
    k0_part11 (F := F) i arg2 harg2 arg3 harg3 arg4 harg4 arg5 harg5 arg6 harg6 arg7 harg7 arg8 harg8 arg9 harg9 arg10 harg10 arg11 harg11 arg12 harg12 arg13 harg13 arg14 harg14 arg15 harg15 = productsHead i arg2 harg2 arg3 harg3 arg4 harg4 arg5 harg5 arg6 harg6 arg7 harg7 arg8 harg8 arg9 harg9 arg10 harg10 arg11 harg11 arg12 harg12 arg13 harg13 arg14 harg14 arg15 harg15 := by
  rw [k0_part11_eq_skeleton]; unfold k0_part11_skel
  simp only [dif_neg h, pure_bind]; rfl

/-- The second stage: the products of the codes with one block of the filters, scaled, biased and stored. -/
noncomputable def products (i : grid0.Coords) (arg2 : Memref sig .tc .vmem S1x512x1280 .bf16) (harg2 : arg2.IsWhole) (arg3 : Memref sig .tc .vmem S12x1280x128 .fp8e4m3) (harg3 : arg3.IsWhole) (arg4 : Memref sig .tc .vmem S1x128 .f32) (harg4 : arg4.IsWhole) (arg5 : Memref sig .tc .vmem S1x128 .f32) (harg5 : arg5.IsWhole) (arg6 : Memref sig .tc .vmem S1x6x128 .f32) (harg6 : arg6.IsWhole) (arg7 : Memref sig .tc .vmem S1x6x128 .bf16) (harg7 : arg7.IsWhole) (arg8 : Memref sig .tc .vmem S1x3066x128 .bf16) (harg8 : arg8.IsWhole) (arg9 : Memref sig .tc .vmem S1x6x128 .f32) (harg9 : arg9.IsWhole) (arg10 : Memref sig .tc .vmem S1x512x1280 .fp8e4m3) (harg10 : arg10.IsWhole) (arg11 : Memref sig .tc .vmem S1x1x512 .f32) (harg11 : arg11.IsWhole) (arg12 : Memref sig .tc .vmem S512x1280 .fp8e4m3) (harg12 : arg12.IsWhole) (arg13 : Memref sig .tc .vmem S512x128 .f32) (harg13 : arg13.IsWhole) (arg14 : Memref sig .tc .vmem S512x128 .f32) (harg14 : arg14.IsWhole) (arg15 : Memref sig .tc .vmem S8x128 .f32) (harg15 : arg15.IsWhole) :
    Prog (TpuEff nD τ sig (Elt F) Λ₀ .tc) PUnit := do
  let ⟨v4, v6, v11, v16, v18, v21, v22, v23, v26, v27⟩ : Σ' (v4 : FVec F S1x128 .f32) (v6 : FVec F S1x128 .f32) (v11 : FVec F S1280x256 .fp8e4m3) (v16 : FVec F S1280x256 .fp8e4m3) (v18 : FVec F S256x256 .f32) (v21 : FVec F S256x256 .f32) (v22 : Vec F S256x128 .f32) (v23 : Vec F S256x128 .f32) (v26 : FVec F S256x128 .f32), FVec F S256x128 .f32 ← productsHead i arg2 harg2 arg3 harg3 arg4 harg4 arg5 harg5 arg6 harg6 arg7 harg7 arg8 harg8 arg9 harg9 arg10 harg10 arg11 harg11 arg12 harg12 arg13 harg13 arg14 harg14 arg15 harg15
  let ⟨v48, v51, v52, v53, v55, v62, v66⟩ : Σ' (v48 : FVec F S256x256 .f32) (v51 : FVec F S256x256 .f32) (v52 : Vec F S256x128 .f32) (v53 : Vec F S256x128 .f32) (v55 : FVec F S256x128 .f32) (v62 : FVec F S256x128 .f32), FVec F S1x128 .f32 ← k0_part12 i arg2 harg2 arg3 harg3 arg4 harg4 arg5 harg5 arg6 harg6 arg7 harg7 arg8 harg8 arg9 harg9 arg10 harg10 arg11 harg11 arg12 harg12 arg13 harg13 arg14 harg14 arg15 harg15 v4 v6 v11 v16 v18 v21 v22 v23 v26 v27
  let ⟨v105_lo, v105_hi⟩ : Σ' (v105_lo : FVec F S1x255x128 .bf16), FVec F S1x255x128 .bf16 ← k0_part13 i arg2 harg2 arg3 harg3 arg4 harg4 arg5 harg5 arg6 harg6 arg7 harg7 arg8 harg8 arg9 harg9 arg10 harg10 arg11 harg11 arg12 harg12 arg13 harg13 arg14 harg14 arg15 harg15 v4 v6 v48 v51 v52 v53 v55 v62 v66
  let ⟨v110, v115, v131, v140⟩ : Σ' (v110 : FVec F S1280x256 .fp8e4m3) (v115 : FVec F S1280x256 .fp8e4m3) (v131 : FVec F S256x128 .f32), FVec F S256x128 .f32 ← k0_part14 i arg2 harg2 arg3 harg3 arg4 harg4 arg5 harg5 arg6 harg6 arg7 harg7 arg8 harg8 arg9 harg9 arg10 harg10 arg11 harg11 arg12 harg12 arg13 harg13 arg14 harg14 arg15 harg15 v4 v6 v105_lo v105_hi
  let ⟨v147, v150, v151, v152, v161, v172⟩ : Σ' (v147 : FVec F S256x256 .f32) (v150 : FVec F S256x256 .f32) (v151 : Vec F S256x128 .f32) (v152 : Vec F S256x128 .f32) (v161 : FVec F S256x128 .f32), FVec F S1x128 .f32 ← k0_part15 i arg2 harg2 arg3 harg3 arg4 harg4 arg5 harg5 arg6 harg6 arg7 harg7 arg8 harg8 arg9 harg9 arg10 harg10 arg11 harg11 arg12 harg12 arg13 harg13 arg14 harg14 arg15 harg15 v4 v6 v110 v115 v131 v140
  let v209 : FVec F S1280x256 .fp8e4m3 ← k0_part16 i arg2 harg2 arg3 harg3 arg4 harg4 arg5 harg5 arg6 harg6 arg7 harg7 arg8 harg8 arg9 harg9 arg10 harg10 arg11 harg11 arg12 harg12 arg13 harg13 arg14 harg14 arg15 harg15 v4 v6 v147 v150 v151 v152 v161 v172
  let v214 : FVec F S1280x256 .fp8e4m3 ← k0_part17 i arg2 harg2 arg3 harg3 arg4 harg4 arg5 harg5 arg6 harg6 arg7 harg7 arg8 harg8 arg9 harg9 arg10 harg10 arg11 harg11 arg12 harg12 arg13 harg13 arg14 harg14 arg15 harg15 v4 v6 v209
  let ⟨v251, v260, v276, v283, v286⟩ : Σ' (v251 : Vec F S256x128 .f32) (v260 : FVec F S256x128 .f32) (v276 : FVec F S256x128 .f32) (v283 : FVec F S256x128 .f32), FVec F S256x128 .f32 ← k0_part18 i arg2 harg2 arg3 harg3 arg4 harg4 arg5 harg5 arg6 harg6 arg7 harg7 arg8 harg8 arg9 harg9 arg10 harg10 arg11 harg11 arg12 harg12 arg13 harg13 arg14 harg14 arg15 harg15 v4 v6 v209 v214
  let v288 : Vec F S1x128 .f32 ← Prog.lift (.load arg15 (Rect.unit (s := S8x128) ![5, 0] S1x128.size inb_S8x128_S1x128_5_0).toLoadRect (View.loadsAt_vmem h_S1x128))
  Prog.lift (.store arg15 (Rect.unit (s := S8x128) ![5, 0] S1x128.size inb_S8x128_S1x128_5_0) (k0_pay105 v286) Finset.univ (View.stores_vmem_bits_univ h_S1x128 rfl) (.inl rfl))
  let v295 : Vec F S1x1x128 .f32 ← Prog.lift (.load arg9 (Rect.unit (s := S1x6x128) ![0, 5, 0] S1x1x128.size inb_S1x6x128_S1x1x128_0_5_0).toLoadRect (View.loadsAt_vmem h_S1x1x128))
  Prog.lift (.store arg9 (Rect.unit (s := S1x6x128) ![0, 5, 0] S1x1x128.size inb_S1x6x128_S1x1x128_0_5_0) (k0_pay106 v4 v251 v276) Finset.univ (View.stores_vmem_bits_univ h_S1x1x128 rfl) (.inl rfl))
  let v301_raw : Vec F S1x255x2x128 .bf16 ← Prog.lift (.load (arg8.reshape S1x1533x2x128 reshapes_S1x3066x128_S1x1533x2x128.1 reshapes_S1x3066x128_S1x1533x2x128.2 harg8.contiguous) (⟨![0, 770, 0, 0], S1x255x2x128.size, ![1, 3, 1, 1], inb_S1x1533x2x128_S1x255x2x128_0_770_0_0_s_1_3_1_1⟩ : LoadRect S1x1533x2x128) (View.loadsAt_vmem h_S1x255x2x128))
  Prog.lift (.store (arg8.reshape S1x1533x2x128 reshapes_S1x3066x128_S1x1533x2x128.1 reshapes_S1x3066x128_S1x1533x2x128.2 harg8.contiguous) ⟨(⟨![0, 770, 0, 0], S1x255x2x128.size, ![1, 3, 1, 1], inb_S1x1533x2x128_S1x255x2x128_0_770_0_0_s_1_3_1_1⟩ : LoadRect S1x1533x2x128), spos_1_3_1_1⟩ (k0_pay107 v260 v283) Finset.univ (View.stores_vmem h_S1x255x2x128 (harg8.storeExact_pairs rfl _ rowgroups_S1x1533x2x128_S1x3066x128 packedbf16_S1x1533x2x128_S1x255x2x128_0_770_0_0_s_1_3_1_1) (fun _ => rfl)) (.inl rfl))
  let v304 : Vec F S6x128 .f32 ← Prog.lift (.load arg15 (Rect.unit (s := S8x128) ![0, 0] S6x128.size inb_S8x128_S6x128_0_0).toLoadRect (View.loadsAt_vmem h_S6x128))
  let v305 : Vec F S1x6x128 .f32 ← Prog.lift (.load arg6 (Rect.unit (s := S1x6x128) ![0, 0, 0] S1x6x128.size inb_S1x6x128_S1x6x128_0_0_0).toLoadRect (View.loadsAt_vmem h_S1x6x128))
  let v311 : Vec F S1x6x128 .bf16 ← Prog.lift (.load arg7 (Rect.unit (s := S1x6x128) ![0, 0, 0] S1x6x128.size inb_S1x6x128_S1x6x128_0_0_0).toLoadRect (View.loadsAt_vmem h_S1x6x128))
  Prog.lift (.store arg7 (Rect.unit (s := S1x6x128) ![0, 0, 0] S1x6x128.size inb_S1x6x128_S1x6x128_0_0_0) (k0_pay108 v6 v304 v305) Finset.univ (View.stores_vmem h_S1x6x128 (harg7.storeExact_slice rfl _ packedbf16_S1x6x128_S1x6x128_0_0_0) (fun _ => rfl)) (.inl rfl))
  pure ⟨⟩

set_option maxRecDepth 65536 in
/-- At the first channel block of a batch entry the body is the first stage, then the second. -/
theorem body_pos (i : grid0.Coords) (arg2 : Memref sig .tc .vmem S1x512x1280 .bf16) (harg2 : arg2.IsWhole) (arg3 : Memref sig .tc .vmem S12x1280x128 .fp8e4m3) (harg3 : arg3.IsWhole) (arg4 : Memref sig .tc .vmem S1x128 .f32) (harg4 : arg4.IsWhole) (arg5 : Memref sig .tc .vmem S1x128 .f32) (harg5 : arg5.IsWhole) (arg6 : Memref sig .tc .vmem S1x6x128 .f32) (harg6 : arg6.IsWhole) (arg7 : Memref sig .tc .vmem S1x6x128 .bf16) (harg7 : arg7.IsWhole) (arg8 : Memref sig .tc .vmem S1x3066x128 .bf16) (harg8 : arg8.IsWhole) (arg9 : Memref sig .tc .vmem S1x6x128 .f32) (harg9 : arg9.IsWhole) (arg10 : Memref sig .tc .vmem S1x512x1280 .fp8e4m3) (harg10 : arg10.IsWhole) (arg11 : Memref sig .tc .vmem S1x1x512 .f32) (harg11 : arg11.IsWhole) (arg12 : Memref sig .tc .vmem S512x1280 .fp8e4m3) (harg12 : arg12.IsWhole) (arg13 : Memref sig .tc .vmem S512x128 .f32) (harg13 : arg13.IsWhole) (arg14 : Memref sig .tc .vmem S512x128 .f32) (harg14 : arg14.IsWhole) (arg15 : Memref sig .tc .vmem S8x128 .f32) (harg15 : arg15.IsWhole) (h : k0_cond1 i = 1#1) :
    cc0_codec_upsample (F := F) i arg2 harg2 arg3 harg3 arg4 harg4 arg5 harg5 arg6 harg6 arg7 harg7 arg8 harg8 arg9 harg9 arg10 harg10 arg11 harg11 arg12 harg12 arg13 harg13 arg14 harg14 arg15 harg15 = quantise i arg2 harg2 arg3 harg3 arg4 harg4 arg5 harg5 arg6 harg6 arg7 harg7 arg8 harg8 arg9 harg9 arg10 harg10 arg11 harg11 arg12 harg12 arg13 harg13 arg14 harg14 arg15 harg15 >>= fun _ => products i arg2 harg2 arg3 harg3 arg4 harg4 arg5 harg5 arg6 harg6 arg7 harg7 arg8 harg8 arg9 harg9 arg10 harg10 arg11 harg11 arg12 harg12 arg13 harg13 arg14 harg14 arg15 harg15 := by
  rw [cc0_codec_upsample_eq_skeleton]; unfold cc0_codec_upsample_skel
  rw [k0_part19_eq_skeleton]; unfold k0_part19_skel
  simp only [part11_pos (h := h), products, bind_assoc, pure_bind]

set_option maxRecDepth 65536 in
/-- At the other channel blocks it is the second stage alone. -/
theorem body_neg (i : grid0.Coords) (arg2 : Memref sig .tc .vmem S1x512x1280 .bf16) (harg2 : arg2.IsWhole) (arg3 : Memref sig .tc .vmem S12x1280x128 .fp8e4m3) (harg3 : arg3.IsWhole) (arg4 : Memref sig .tc .vmem S1x128 .f32) (harg4 : arg4.IsWhole) (arg5 : Memref sig .tc .vmem S1x128 .f32) (harg5 : arg5.IsWhole) (arg6 : Memref sig .tc .vmem S1x6x128 .f32) (harg6 : arg6.IsWhole) (arg7 : Memref sig .tc .vmem S1x6x128 .bf16) (harg7 : arg7.IsWhole) (arg8 : Memref sig .tc .vmem S1x3066x128 .bf16) (harg8 : arg8.IsWhole) (arg9 : Memref sig .tc .vmem S1x6x128 .f32) (harg9 : arg9.IsWhole) (arg10 : Memref sig .tc .vmem S1x512x1280 .fp8e4m3) (harg10 : arg10.IsWhole) (arg11 : Memref sig .tc .vmem S1x1x512 .f32) (harg11 : arg11.IsWhole) (arg12 : Memref sig .tc .vmem S512x1280 .fp8e4m3) (harg12 : arg12.IsWhole) (arg13 : Memref sig .tc .vmem S512x128 .f32) (harg13 : arg13.IsWhole) (arg14 : Memref sig .tc .vmem S512x128 .f32) (harg14 : arg14.IsWhole) (arg15 : Memref sig .tc .vmem S8x128 .f32) (harg15 : arg15.IsWhole) (h : ¬k0_cond1 i = 1#1) :
    cc0_codec_upsample (F := F) i arg2 harg2 arg3 harg3 arg4 harg4 arg5 harg5 arg6 harg6 arg7 harg7 arg8 harg8 arg9 harg9 arg10 harg10 arg11 harg11 arg12 harg12 arg13 harg13 arg14 harg14 arg15 harg15 = products i arg2 harg2 arg3 harg3 arg4 harg4 arg5 harg5 arg6 harg6 arg7 harg7 arg8 harg8 arg9 harg9 arg10 harg10 arg11 harg11 arg12 harg12 arg13 harg13 arg14 harg14 arg15 harg15 := by
  rw [cc0_codec_upsample_eq_skeleton]; unfold cc0_codec_upsample_skel
  rw [k0_part19_eq_skeleton]; unfold k0_part19_skel
  simp only [part11_neg (h := h), products, bind_assoc, pure_bind]

end Cert.KernelIdeal.Gen

end
-- ==== Proof.Runs.lean ====
module

public import proofs.«01_k».proof.Proof.Stages
public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 5) — by arithmetic of the point. -/
theorem hcond0_0 : ∀ t : Fin cfg0.N, cond0_0 (grid0.coords t) ↔ t.val % 5 = 0 :=
  (fun t => by
    have ht : t.val < 20 := Nat.lt_of_lt_of_eq t.isLt N_0
    have e0 : (grid0.coords t 0).val = t.val / 5 % 4 := Pipeline.Grid.coords_val t 0 (by decide) rfl
    have e1 : (grid0.coords t 1).val = t.val / 1 % 5 := Pipeline.Grid.coords_val t 1 (by decide) rfl
    simp only [cond0_0, k0_cond1, e0, e1]
    word_cmp
   : ∀ t : Fin grid0.N, cond0_0 (grid0.coords t) ↔ t.val % 5 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x512x1280 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S12x1280x128 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x6x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x6x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x3066x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x6x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512x1280 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x512 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S512x1280 .fp8e4m3 := Memref.whole cc0_scratch0
abbrev scM0_1 : Memref sig .tc .vmem S512x128 .f32 := Memref.whole cc0_scratch1
abbrev scM0_2 : Memref sig .tc .vmem S512x128 .f32 := Memref.whole cc0_scratch2
abbrev scM0_3 : Memref sig .tc .vmem S8x128 .f32 := Memref.whole cc0_scratch3
/-- The scratch `arg12` the kernel carries between points, as a view: what it holds is stated through it. -/
abbrev VS0_0 : View sig .tc .vmem S512x1280 .fp8e4m3 := scM0_0.view
/-- The scratch `arg14` the kernel carries between points, as a view: what it holds is stated through it. -/
abbrev VS0_2 : View sig .tc .vmem S512x128 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Gen

end
-- ==== Proof.Values.lean ====
/-
  What the second stage of one grid point leaves in its three output blocks, as functions of what it reads: the rotated
  codes and the two rows of scales of the scratches, the codes block, the taps, the channel factors, the bias and the
  carried tail.
-/
module

public import proofs.«01_k».proof.Proof.Gen.KernelIdeal.Skeleton
public import Idealize.ShloMosaic.Lib.Pointwise

@[expose] public section

noncomputable section

namespace Cert.KernelIdeal.Gen

open Idealize.ShloMosaic

/-- One frame of codes against one tap, at one output channel: the sum over the 1280 input channels. -/
def tapDot (q : Fin 1280 → EReal) (w : Vec Ideal S12x1280x128 .fp8e4m3) (tap : Fin 12) (c : Fin 128) : EReal :=
  ∑ k : Fin 1280, q k * w (ix3 tap k c)

/-- A sample between two frames: tap `h` of the frame ahead (row `i` of the rotated scratches) and tap `6 + h` of
    frame `i`, each times its frame's scale, added, times the channel's factor, plus the bias. -/
def betweenAt (w : Vec Ideal S12x1280x128 .fp8e4m3) (ws bias : Vec Ideal S1x128 .f32) (y8 : Vec Ideal S1x512x1280 .fp8e4m3)
    (z0 : Vec Ideal S512x1280 .fp8e4m3) (z1 z2 : Vec Ideal S512x128 .f32) (i : Fin 512) (h : Fin 6) (c : Fin 128) : EReal :=
  (tapDot (fun k => z0 (ix2 i k)) w ⟨h.val, by omega⟩ c * z2 (ix2 i c)
    + tapDot (fun k => y8 (ix3 0 i k)) w ⟨6 + h.val, by omega⟩ c * z1 (ix2 i c)) * ws (ix2 0 c) + bias (ix2 0 c)

/-- The block of all samples after the first six: sample `6·i + h` is `betweenAt i h`. -/
def restV (w : Vec Ideal S12x1280x128 .fp8e4m3) (ws bias : Vec Ideal S1x128 .f32) (y8 : Vec Ideal S1x512x1280 .fp8e4m3)
    (z0 : Vec Ideal S512x1280 .fp8e4m3) (z1 z2 : Vec Ideal S512x128 .f32) : Vec Ideal S1x3066x128 .bf16 :=
  fun y => betweenAt w ws bias y8 z0 z1 z2 ⟨(y 1).val / 6, by have := (y 1).isLt; change _ < 3066 at this; omega⟩
    ⟨(y 1).val % 6, Nat.mod_lt _ (by decide)⟩ (y 2)

/-- The first six samples: taps `0 … 5` of frame 0 (row 511 of the rotated scratches), times its scale and the
    channel's factor, plus the carried tail, plus the bias. -/
def firstV (w : Vec Ideal S12x1280x128 .fp8e4m3) (ws bias : Vec Ideal S1x128 .f32) (tail : Vec Ideal S1x6x128 .f32)
    (z0 : Vec Ideal S512x1280 .fp8e4m3) (z2 : Vec Ideal S512x128 .f32) : Vec Ideal S1x6x128 .bf16 :=
  fun y => (tapDot (fun k => z0 (ix2 511 k)) w ⟨(y 1).val, by have := (y 1).isLt; change _ < 6 at this; omega⟩ (y 2)
    * z2 (ix2 511 (y 2)) * ws (ix2 0 (y 2)) + tail (ix3 0 (y 1) (y 2))) + bias (ix2 0 (y 2))

/-- The samples carried to the next block: taps `6 … 11` of the last frame, times its scale and the channel's factor. -/
def tailV (w : Vec Ideal S12x1280x128 .fp8e4m3) (ws : Vec Ideal S1x128 .f32) (y8 : Vec Ideal S1x512x1280 .fp8e4m3)
    (z1 : Vec Ideal S512x128 .f32) : Vec Ideal S1x6x128 .f32 :=
  fun y => tapDot (fun k => y8 (ix3 0 511 k)) w ⟨6 + (y 1).val, by have := (y 1).isLt; change _ < 6 at this; omega⟩ (y 2)
    * z1 (ix2 511 (y 2)) * ws (ix2 0 (y 2))

/-- A sample of `restV`, given its frame and its place within the six. -/
theorem restV_at (w : Vec Ideal S12x1280x128 .fp8e4m3) (ws bias : Vec Ideal S1x128 .f32) (y8 : Vec Ideal S1x512x1280 .fp8e4m3)
    (z0 : Vec Ideal S512x1280 .fp8e4m3) (z1 z2 : Vec Ideal S512x128 .f32) (y : S1x3066x128.Idx) (i : Fin 512) (h : Fin 6) (c : Fin 128)
    (h1 : (y 1).val = 6 * i.val + h.val) (h2 : (y 2).val = c.val) :
    restV w ws bias y8 z0 z1 z2 y = betweenAt w ws bias y8 z0 z1 z2 i h c := by
  unfold restV
  congr 1
  · exact Fin.ext (by show (y 1).val / 6 = _; omega)
  · exact Fin.ext (by show (y 1).val % 6 = _; omega)
  · exact Fin.ext h2

end Cert.KernelIdeal.Gen

end
-- ==== Proof.Words.lean ====
/-
  What an array of 3066 rows holds after six stores of row pairs through its reading as 1533 pairs, three pairs apart.
-/
module

public import proofs.«01_k».proof.Proof.Values
public import Idealize.ShloMosaic.Lib.Pointwise

@[expose] public section

set_option maxRecDepth 16384

noncomputable section

namespace Cert.KernelIdeal.Gen

open Idealize.ShloMosaic

/-- `n` pairs of rows, three pairs apart, from pair `o` on. -/
abbrev pairRect (o n : Nat) (inb : ∀ a, (![1, n, 2, 128] : Fin 4 → Nat) a = 0
      ∨ (![0, o, 0, 0] : Fin 4 → Nat) a + (![1, 3, 1, 1] : Fin 4 → Nat) a * ((![1, n, 2, 128] : Fin 4 → Nat) a - 1) < S1x1533x2x128.size a)
    (sp : ∀ a, 0 < (![1, 3, 1, 1] : Fin 4 → Nat) a) : Rect S1x1533x2x128 :=
  ⟨⟨![0, o, 0, 0], ![1, n, 2, 128], ![1, 3, 1, 1], inb⟩, sp⟩

theorem mem_pairRect (o n : Nat) (inb) (sp) (y : S1x1533x2x128.Idx) (j : Nat) (hj : j < n) (hy : (y 1).val = o + 3 * j) :
    y ∈ (pairRect o n inb sp).set := by
  refine (LoadRect.mem_set _).mpr fun a => ?_
  match a with
  | ⟨0, _⟩ => exact ⟨0, Nat.one_pos, by have := (y 0).isLt; change _ < 1 at this; show (y 0).val = 0 + 1 * 0; omega⟩
  | ⟨1, _⟩ => exact ⟨j, hj, hy⟩
  | ⟨2, _⟩ => exact ⟨(y 2).val, (y 2).isLt, by show (y 2).val = 0 + 1 * (y 2).val; omega⟩
  | ⟨3, _⟩ => exact ⟨(y 3).val, (y 3).isLt, by show (y 3).val = 0 + 1 * (y 3).val; omega⟩

/-- The row of the 3066 that a pair's half is. -/
theorem reshape_pairs (h : S1x1533x2x128.numel = S1x3066x128.numel) (y : S1x1533x2x128.Idx) :
    ((Shape.reshapeEquiv (s := S1x3066x128) (s' := S1x1533x2x128) h y) 1).val = 2 * (y 1).val + (y 2).val
      ∧ ((Shape.reshapeEquiv (s := S1x3066x128) (s' := S1x1533x2x128) h y) 2).val = (y 3).val := by
  idx_vars y
  constructor
  · pointwise
    omega
  · pointwise

/-- Six stores of row pairs: rows `6·i + 2·k` and `6·i + 2·k + 1` are pair `3·i + k`; when each stored pair is the two
    values `B i (2·k)`, `B i (2·k + 1)`, the array holds `B i h` at row `6·i + h`. -/
theorem read_pairs (v : View sig .tc .vmem S1x3066x128 .bf16) (h : S1x1533x2x128.numel = S1x3066x128.numel)
    (f : v.ty.Contents (Elt Ideal)) (G : Vec Ideal S1x3066x128 .bf16) (B : Fin 512 → Fin 6 → Fin 128 → EReal)
    (hG : ∀ (y : S1x3066x128.Idx) (i : Fin 512) (h : Fin 6) (c : Fin 128), (y 1).val = 6 * i.val + h.val → (y 2).val = c.val →
      G y = B i h c)
    (i0) (s0) (w0 : (⟨4, ![1, 255, 2, 128]⟩ : Shape).Idx → EReal)
    (i1) (s1) (w1 : (⟨4, ![1, 256, 2, 128]⟩ : Shape).Idx → EReal)
    (i2) (s2) (w2 : (⟨4, ![1, 255, 2, 128]⟩ : Shape).Idx → EReal)
    (i3) (s3) (w3 : (⟨4, ![1, 256, 2, 128]⟩ : Shape).Idx → EReal)
    (i4) (s4) (w4 : (⟨4, ![1, 255, 2, 128]⟩ : Shape).Idx → EReal)
    (i5) (s5) (w5 : (⟨4, ![1, 256, 2, 128]⟩ : Shape).Idx → EReal)
    (h0 : ∀ (a : Fin 255) (p : Fin 2) (c : Fin 128), w0 (ix4 0 a p c) = B ⟨256 + a.val, by omega⟩ ⟨4 + p.val, by omega⟩ c)
    (h1 : ∀ (a : Fin 256) (p : Fin 2) (c : Fin 128), w1 (ix4 0 a p c) = B ⟨a.val, by omega⟩ ⟨4 + p.val, by omega⟩ c)
    (h2 : ∀ (a : Fin 255) (p : Fin 2) (c : Fin 128), w2 (ix4 0 a p c) = B ⟨256 + a.val, by omega⟩ ⟨2 + p.val, by omega⟩ c)
    (h3 : ∀ (a : Fin 256) (p : Fin 2) (c : Fin 128), w3 (ix4 0 a p c) = B ⟨a.val, by omega⟩ ⟨2 + p.val, by omega⟩ c)
    (h4 : ∀ (a : Fin 255) (p : Fin 2) (c : Fin 128), w4 (ix4 0 a p c) = B ⟨256 + a.val, by omega⟩ ⟨0 + p.val, by omega⟩ c)
    (h5 : ∀ (a : Fin 256) (p : Fin 2) (c : Fin 128), w5 (ix4 0 a p c) = B ⟨a.val, by omega⟩ ⟨0 + p.val, by omega⟩ c)
    : v.read (Elt Ideal) ((v.reshape S1x1533x2x128 h).writes (Elt Ideal) f
        [⟨pairRect 770 255 i0 s0, w0⟩, ⟨pairRect 2 256 i1 s1, w1⟩, ⟨pairRect 769 255 i2 s2, w2⟩, ⟨pairRect 1 256 i3 s3, w3⟩, ⟨pairRect 768 255 i4 s4, w4⟩, ⟨pairRect 0 256 i5 s5, w5⟩]) = G := by
  funext y
  obtain ⟨x, rfl⟩ := (Shape.reshapeEquiv (s := S1x3066x128) (s' := S1x1533x2x128) h).surjective y
  show (v.reshape S1x1533x2x128 h).read (Elt Ideal) _ x = _
  refine View.read_writes_apply_of_pieces (v := v.reshape S1x1533x2x128 h) (Val := Elt Ideal) (e := .bf16) _
    (fun x => G (Shape.reshapeEquiv (s := S1x3066x128) (s' := S1x1533x2x128) h x)) _ ?_ x ?_
  · intro p hp z
    simp only [List.mem_cons, List.not_mem_nil, or_false] at hp
    rcases hp with rfl | rfl | rfl | rfl | rfl | rfl
    · obtain ⟨e1, e2⟩ := reshape_pairs h ((pairRect 770 255 i0 s0).emb z)
      have d1 : (((pairRect 770 255 i0 s0).emb z) 1).val = 770 + 3 * (z 1).val := rfl
      have d2 : (((pairRect 770 255 i0 s0).emb z) 2).val = 0 + 1 * (z 2).val := rfl
      have d3 : (((pairRect 770 255 i0 s0).emb z) 3).val = 0 + 1 * (z 3).val := rfl
      have hz : z = ix4 0 (z 1) (z 2) (z 3) := by
        funext a
        match a with
        | ⟨0, _⟩ => exact Fin.ext (by have := (z 0).isLt; change _ < 1 at this; show (z 0).val = 0; omega)
        | ⟨1, _⟩ => rfl
        | ⟨2, _⟩ => rfl
        | ⟨3, _⟩ => rfl
      obtain ⟨a, ha⟩ : ∃ a : Fin 255, a = z 1 := ⟨_, rfl⟩
      obtain ⟨q, hq⟩ : ∃ q : Fin 2, q = z 2 := ⟨_, rfl⟩
      obtain ⟨c, hc⟩ : ∃ c : Fin 128, c = z 3 := ⟨_, rfl⟩
      rw [← ha] at d1; rw [← hq] at d2; rw [← hc] at d3
      refine (congrArg w0 (hz.trans (by rw [ha, hq, hc]; try rfl))).trans ((h0 a q c).trans (hG _ _ _ _ ?_ ?_).symm)
      · rw [e1, d1, d2]; dsimp only; omega
      · rw [e2, d3]; omega
    · obtain ⟨e1, e2⟩ := reshape_pairs h ((pairRect 2 256 i1 s1).emb z)
      have d1 : (((pairRect 2 256 i1 s1).emb z) 1).val = 2 + 3 * (z 1).val := rfl
      have d2 : (((pairRect 2 256 i1 s1).emb z) 2).val = 0 + 1 * (z 2).val := rfl
      have d3 : (((pairRect 2 256 i1 s1).emb z) 3).val = 0 + 1 * (z 3).val := rfl
      have hz : z = ix4 0 (z 1) (z 2) (z 3) := by
        funext a
        match a with
        | ⟨0, _⟩ => exact Fin.ext (by have := (z 0).isLt; change _ < 1 at this; show (z 0).val = 0; omega)
        | ⟨1, _⟩ => rfl
        | ⟨2, _⟩ => rfl
        | ⟨3, _⟩ => rfl
      obtain ⟨a, ha⟩ : ∃ a : Fin 256, a = z 1 := ⟨_, rfl⟩
      obtain ⟨q, hq⟩ : ∃ q : Fin 2, q = z 2 := ⟨_, rfl⟩
      obtain ⟨c, hc⟩ : ∃ c : Fin 128, c = z 3 := ⟨_, rfl⟩
      rw [← ha] at d1; rw [← hq] at d2; rw [← hc] at d3
      refine (congrArg w1 (hz.trans (by rw [ha, hq, hc]; try rfl))).trans ((h1 a q c).trans (hG _ _ _ _ ?_ ?_).symm)
      · rw [e1, d1, d2]; dsimp only; omega
      · rw [e2, d3]; omega
    · obtain ⟨e1, e2⟩ := reshape_pairs h ((pairRect 769 255 i2 s2).emb z)
      have d1 : (((pairRect 769 255 i2 s2).emb z) 1).val = 769 + 3 * (z 1).val := rfl
      have d2 : (((pairRect 769 255 i2 s2).emb z) 2).val = 0 + 1 * (z 2).val := rfl
      have d3 : (((pairRect 769 255 i2 s2).emb z) 3).val = 0 + 1 * (z 3).val := rfl
      have hz : z = ix4 0 (z 1) (z 2) (z 3) := by
        funext a
        match a with
        | ⟨0, _⟩ => exact Fin.ext (by have := (z 0).isLt; change _ < 1 at this; show (z 0).val = 0; omega)
        | ⟨1, _⟩ => rfl
        | ⟨2, _⟩ => rfl
        | ⟨3, _⟩ => rfl
      obtain ⟨a, ha⟩ : ∃ a : Fin 255, a = z 1 := ⟨_, rfl⟩
      obtain ⟨q, hq⟩ : ∃ q : Fin 2, q = z 2 := ⟨_, rfl⟩
      obtain ⟨c, hc⟩ : ∃ c : Fin 128, c = z 3 := ⟨_, rfl⟩
      rw [← ha] at d1; rw [← hq] at d2; rw [← hc] at d3
      refine (congrArg w2 (hz.trans (by rw [ha, hq, hc]; try rfl))).trans ((h2 a q c).trans (hG _ _ _ _ ?_ ?_).symm)
      · rw [e1, d1, d2]; dsimp only; omega
      · rw [e2, d3]; omega
    · obtain ⟨e1, e2⟩ := reshape_pairs h ((pairRect 1 256 i3 s3).emb z)
      have d1 : (((pairRect 1 256 i3 s3).emb z) 1).val = 1 + 3 * (z 1).val := rfl
      have d2 : (((pairRect 1 256 i3 s3).emb z) 2).val = 0 + 1 * (z 2).val := rfl
      have d3 : (((pairRect 1 256 i3 s3).emb z) 3).val = 0 + 1 * (z 3).val := rfl
      have hz : z = ix4 0 (z 1) (z 2) (z 3) := by
        funext a
        match a with
        | ⟨0, _⟩ => exact Fin.ext (by have := (z 0).isLt; change _ < 1 at this; show (z 0).val = 0; omega)
        | ⟨1, _⟩ => rfl
        | ⟨2, _⟩ => rfl
        | ⟨3, _⟩ => rfl
      obtain ⟨a, ha⟩ : ∃ a : Fin 256, a = z 1 := ⟨_, rfl⟩
      obtain ⟨q, hq⟩ : ∃ q : Fin 2, q = z 2 := ⟨_, rfl⟩
      obtain ⟨c, hc⟩ : ∃ c : Fin 128, c = z 3 := ⟨_, rfl⟩
      rw [← ha] at d1; rw [← hq] at d2; rw [← hc] at d3
      refine (congrArg w3 (hz.trans (by rw [ha, hq, hc]; try rfl))).trans ((h3 a q c).trans (hG _ _ _ _ ?_ ?_).symm)
      · rw [e1, d1, d2]; dsimp only; omega
      · rw [e2, d3]; omega
    · obtain ⟨e1, e2⟩ := reshape_pairs h ((pairRect 768 255 i4 s4).emb z)
      have d1 : (((pairRect 768 255 i4 s4).emb z) 1).val = 768 + 3 * (z 1).val := rfl
      have d2 : (((pairRect 768 255 i4 s4).emb z) 2).val = 0 + 1 * (z 2).val := rfl
      have d3 : (((pairRect 768 255 i4 s4).emb z) 3).val = 0 + 1 * (z 3).val := rfl
      have hz : z = ix4 0 (z 1) (z 2) (z 3) := by
        funext a
        match a with
        | ⟨0, _⟩ => exact Fin.ext (by have := (z 0).isLt; change _ < 1 at this; show (z 0).val = 0; omega)
        | ⟨1, _⟩ => rfl
        | ⟨2, _⟩ => rfl
        | ⟨3, _⟩ => rfl
      obtain ⟨a, ha⟩ : ∃ a : Fin 255, a = z 1 := ⟨_, rfl⟩
      obtain ⟨q, hq⟩ : ∃ q : Fin 2, q = z 2 := ⟨_, rfl⟩
      obtain ⟨c, hc⟩ : ∃ c : Fin 128, c = z 3 := ⟨_, rfl⟩
      rw [← ha] at d1; rw [← hq] at d2; rw [← hc] at d3
      refine (congrArg w4 (hz.trans (by rw [ha, hq, hc]; try rfl))).trans ((h4 a q c).trans (hG _ _ _ _ ?_ ?_).symm)
      · rw [e1, d1, d2]; dsimp only; omega
      · rw [e2, d3]; omega
    · obtain ⟨e1, e2⟩ := reshape_pairs h ((pairRect 0 256 i5 s5).emb z)
      have d1 : (((pairRect 0 256 i5 s5).emb z) 1).val = 0 + 3 * (z 1).val := rfl
      have d2 : (((pairRect 0 256 i5 s5).emb z) 2).val = 0 + 1 * (z 2).val := rfl
      have d3 : (((pairRect 0 256 i5 s5).emb z) 3).val = 0 + 1 * (z 3).val := rfl
      have hz : z = ix4 0 (z 1) (z 2) (z 3) := by
        funext a
        match a with
        | ⟨0, _⟩ => exact Fin.ext (by have := (z 0).isLt; change _ < 1 at this; show (z 0).val = 0; omega)
        | ⟨1, _⟩ => rfl
        | ⟨2, _⟩ => rfl
        | ⟨3, _⟩ => rfl
      obtain ⟨a, ha⟩ : ∃ a : Fin 256, a = z 1 := ⟨_, rfl⟩
      obtain ⟨q, hq⟩ : ∃ q : Fin 2, q = z 2 := ⟨_, rfl⟩
      obtain ⟨c, hc⟩ : ∃ c : Fin 128, c = z 3 := ⟨_, rfl⟩
      rw [← ha] at d1; rw [← hq] at d2; rw [← hc] at d3
      refine (congrArg w5 (hz.trans (by rw [ha, hq, hc]; try rfl))).trans ((h5 a q c).trans (hG _ _ _ _ ?_ ?_).symm)
      · rw [e1, d1, d2]; dsimp only; omega
      · rw [e2, d3]; omega
  · have hx : (x 1).val < 1533 := (x 1).isLt
    rcases (by omega : (x 1).val % 3 = 0 ∨ (x 1).val % 3 = 1 ∨ (x 1).val % 3 = 2) with hk | hk | hk <;>
      rcases Nat.lt_or_ge ((x 1).val / 3) 256 with hlt | hge
    · exact ⟨⟨pairRect 0 256 i5 s5, w5⟩, by simp, mem_pairRect _ _ _ _ _ ((x 1).val / 3) (by omega) (by omega)⟩
    · exact ⟨⟨pairRect 768 255 i4 s4, w4⟩, by simp, mem_pairRect _ _ _ _ _ ((x 1).val / 3 - 256) (by omega) (by omega)⟩
    · exact ⟨⟨pairRect 1 256 i3 s3, w3⟩, by simp, mem_pairRect _ _ _ _ _ ((x 1).val / 3) (by omega) (by omega)⟩
    · exact ⟨⟨pairRect 769 255 i2 s2, w2⟩, by simp, mem_pairRect _ _ _ _ _ ((x 1).val / 3 - 256) (by omega) (by omega)⟩
    · exact ⟨⟨pairRect 2 256 i1 s1, w1⟩, by simp, mem_pairRect _ _ _ _ _ ((x 1).val / 3) (by omega) (by omega)⟩
    · exact ⟨⟨pairRect 770 255 i0 s0, w0⟩, by simp, mem_pairRect _ _ _ _ _ ((x 1).val / 3 - 256) (by omega) (by omega)⟩

/-- Six stores of one row each: row `h` of the block of six is the row stored there. -/
theorem read_rows (v : View sig .tc .vmem S1x6x128 .f32) (f : v.ty.Contents (Elt Ideal)) (G : Vec Ideal S1x6x128 .f32)
    (i5 : ∀ a, (![0, 5, 0] : Fin 3 → Nat) a + (![1, 1, 128] : Fin 3 → Nat) a ≤ S1x6x128.size a) (w5 : (⟨3, ![1, 1, 128]⟩ : Shape).Idx → EReal)
    (i4 : ∀ a, (![0, 4, 0] : Fin 3 → Nat) a + (![1, 1, 128] : Fin 3 → Nat) a ≤ S1x6x128.size a) (w4 : (⟨3, ![1, 1, 128]⟩ : Shape).Idx → EReal)
    (i3 : ∀ a, (![0, 3, 0] : Fin 3 → Nat) a + (![1, 1, 128] : Fin 3 → Nat) a ≤ S1x6x128.size a) (w3 : (⟨3, ![1, 1, 128]⟩ : Shape).Idx → EReal)
    (i2 : ∀ a, (![0, 2, 0] : Fin 3 → Nat) a + (![1, 1, 128] : Fin 3 → Nat) a ≤ S1x6x128.size a) (w2 : (⟨3, ![1, 1, 128]⟩ : Shape).Idx → EReal)
    (i1 : ∀ a, (![0, 1, 0] : Fin 3 → Nat) a + (![1, 1, 128] : Fin 3 → Nat) a ≤ S1x6x128.size a) (w1 : (⟨3, ![1, 1, 128]⟩ : Shape).Idx → EReal)
    (i0 : ∀ a, (![0, 0, 0] : Fin 3 → Nat) a + (![1, 1, 128] : Fin 3 → Nat) a ≤ S1x6x128.size a) (w0 : (⟨3, ![1, 1, 128]⟩ : Shape).Idx → EReal)
    (h5 : ∀ c : Fin 128, w5 (ix3 0 0 c) = G (ix3 0 5 c))
    (h4 : ∀ c : Fin 128, w4 (ix3 0 0 c) = G (ix3 0 4 c))
    (h3 : ∀ c : Fin 128, w3 (ix3 0 0 c) = G (ix3 0 3 c))
    (h2 : ∀ c : Fin 128, w2 (ix3 0 0 c) = G (ix3 0 2 c))
    (h1 : ∀ c : Fin 128, w1 (ix3 0 0 c) = G (ix3 0 1 c))
    (h0 : ∀ c : Fin 128, w0 (ix3 0 0 c) = G (ix3 0 0 c))
    : v.read (Elt Ideal) (v.writes (Elt Ideal) f [⟨Rect.unit (s := S1x6x128) ![0, 5, 0] ![1, 1, 128] i5, w5⟩, ⟨Rect.unit (s := S1x6x128) ![0, 4, 0] ![1, 1, 128] i4, w4⟩, ⟨Rect.unit (s := S1x6x128) ![0, 3, 0] ![1, 1, 128] i3, w3⟩, ⟨Rect.unit (s := S1x6x128) ![0, 2, 0] ![1, 1, 128] i2, w2⟩, ⟨Rect.unit (s := S1x6x128) ![0, 1, 0] ![1, 1, 128] i1, w1⟩, ⟨Rect.unit (s := S1x6x128) ![0, 0, 0] ![1, 1, 128] i0, w0⟩]) = G := by
  funext y
  refine View.read_writes_apply_of_pieces (Val := Elt Ideal) (e := .f32) v f G _ ?_ y ?_
  · intro p hp z
    simp only [List.mem_cons, List.not_mem_nil, or_false] at hp
    rcases hp with rfl | rfl | rfl | rfl | rfl | rfl
    · obtain ⟨c, hc⟩ : ∃ c : Fin 128, c = z 2 := ⟨_, rfl⟩
      have hz : z = ix3 (0 : Fin 1) (0 : Fin 1) c := by
        funext a
        match a with
        | ⟨0, _⟩ => exact Fin.ext (by have := (z 0).isLt; change _ < 1 at this; show (z 0).val = 0; omega)
        | ⟨1, _⟩ => exact Fin.ext (by have := (z 1).isLt; change _ < 1 at this; show (z 1).val = 0; omega)
        | ⟨2, _⟩ => exact hc.symm
      refine (congrArg w5 hz).trans ((h5 c).trans (congrArg G (funext fun a => ?_)))
      match a with
      | ⟨0, _⟩ => exact Fin.ext (by show 0 = 0 + 1 * (z 0).val; have := (z 0).isLt; change _ < 1 at this; omega)
      | ⟨1, _⟩ => exact Fin.ext (by show 5 = 5 + 1 * (z 1).val; have := (z 1).isLt; change _ < 1 at this; omega)
      | ⟨2, _⟩ => exact Fin.ext (by show c.val = 0 + 1 * (z 2).val; rw [hc]; exact (by omega : (z 2).val = 0 + 1 * (z 2).val))
    · obtain ⟨c, hc⟩ : ∃ c : Fin 128, c = z 2 := ⟨_, rfl⟩
      have hz : z = ix3 (0 : Fin 1) (0 : Fin 1) c := by
        funext a
        match a with
        | ⟨0, _⟩ => exact Fin.ext (by have := (z 0).isLt; change _ < 1 at this; show (z 0).val = 0; omega)
        | ⟨1, _⟩ => exact Fin.ext (by have := (z 1).isLt; change _ < 1 at this; show (z 1).val = 0; omega)
        | ⟨2, _⟩ => exact hc.symm
      refine (congrArg w4 hz).trans ((h4 c).trans (congrArg G (funext fun a => ?_)))
      match a with
      | ⟨0, _⟩ => exact Fin.ext (by show 0 = 0 + 1 * (z 0).val; have := (z 0).isLt; change _ < 1 at this; omega)
      | ⟨1, _⟩ => exact Fin.ext (by show 4 = 4 + 1 * (z 1).val; have := (z 1).isLt; change _ < 1 at this; omega)
      | ⟨2, _⟩ => exact Fin.ext (by show c.val = 0 + 1 * (z 2).val; rw [hc]; exact (by omega : (z 2).val = 0 + 1 * (z 2).val))
    · obtain ⟨c, hc⟩ : ∃ c : Fin 128, c = z 2 := ⟨_, rfl⟩
      have hz : z = ix3 (0 : Fin 1) (0 : Fin 1) c := by
        funext a
        match a with
        | ⟨0, _⟩ => exact Fin.ext (by have := (z 0).isLt; change _ < 1 at this; show (z 0).val = 0; omega)
        | ⟨1, _⟩ => exact Fin.ext (by have := (z 1).isLt; change _ < 1 at this; show (z 1).val = 0; omega)
        | ⟨2, _⟩ => exact hc.symm
      refine (congrArg w3 hz).trans ((h3 c).trans (congrArg G (funext fun a => ?_)))
      match a with
      | ⟨0, _⟩ => exact Fin.ext (by show 0 = 0 + 1 * (z 0).val; have := (z 0).isLt; change _ < 1 at this; omega)
      | ⟨1, _⟩ => exact Fin.ext (by show 3 = 3 + 1 * (z 1).val; have := (z 1).isLt; change _ < 1 at this; omega)
      | ⟨2, _⟩ => exact Fin.ext (by show c.val = 0 + 1 * (z 2).val; rw [hc]; exact (by omega : (z 2).val = 0 + 1 * (z 2).val))
    · obtain ⟨c, hc⟩ : ∃ c : Fin 128, c = z 2 := ⟨_, rfl⟩
      have hz : z = ix3 (0 : Fin 1) (0 : Fin 1) c := by
        funext a
        match a with
        | ⟨0, _⟩ => exact Fin.ext (by have := (z 0).isLt; change _ < 1 at this; show (z 0).val = 0; omega)
        | ⟨1, _⟩ => exact Fin.ext (by have := (z 1).isLt; change _ < 1 at this; show (z 1).val = 0; omega)
        | ⟨2, _⟩ => exact hc.symm
      refine (congrArg w2 hz).trans ((h2 c).trans (congrArg G (funext fun a => ?_)))
      match a with
      | ⟨0, _⟩ => exact Fin.ext (by show 0 = 0 + 1 * (z 0).val; have := (z 0).isLt; change _ < 1 at this; omega)
      | ⟨1, _⟩ => exact Fin.ext (by show 2 = 2 + 1 * (z 1).val; have := (z 1).isLt; change _ < 1 at this; omega)
      | ⟨2, _⟩ => exact Fin.ext (by show c.val = 0 + 1 * (z 2).val; rw [hc]; exact (by omega : (z 2).val = 0 + 1 * (z 2).val))
    · obtain ⟨c, hc⟩ : ∃ c : Fin 128, c = z 2 := ⟨_, rfl⟩
      have hz : z = ix3 (0 : Fin 1) (0 : Fin 1) c := by
        funext a
        match a with
        | ⟨0, _⟩ => exact Fin.ext (by have := (z 0).isLt; change _ < 1 at this; show (z 0).val = 0; omega)
        | ⟨1, _⟩ => exact Fin.ext (by have := (z 1).isLt; change _ < 1 at this; show (z 1).val = 0; omega)
        | ⟨2, _⟩ => exact hc.symm
      refine (congrArg w1 hz).trans ((h1 c).trans (congrArg G (funext fun a => ?_)))
      match a with
      | ⟨0, _⟩ => exact Fin.ext (by show 0 = 0 + 1 * (z 0).val; have := (z 0).isLt; change _ < 1 at this; omega)
      | ⟨1, _⟩ => exact Fin.ext (by show 1 = 1 + 1 * (z 1).val; have := (z 1).isLt; change _ < 1 at this; omega)
      | ⟨2, _⟩ => exact Fin.ext (by show c.val = 0 + 1 * (z 2).val; rw [hc]; exact (by omega : (z 2).val = 0 + 1 * (z 2).val))
    · obtain ⟨c, hc⟩ : ∃ c : Fin 128, c = z 2 := ⟨_, rfl⟩
      have hz : z = ix3 (0 : Fin 1) (0 : Fin 1) c := by
        funext a
        match a with
        | ⟨0, _⟩ => exact Fin.ext (by have := (z 0).isLt; change _ < 1 at this; show (z 0).val = 0; omega)
        | ⟨1, _⟩ => exact Fin.ext (by have := (z 1).isLt; change _ < 1 at this; show (z 1).val = 0; omega)
        | ⟨2, _⟩ => exact hc.symm
      refine (congrArg w0 hz).trans ((h0 c).trans (congrArg G (funext fun a => ?_)))
      match a with
      | ⟨0, _⟩ => exact Fin.ext (by show 0 = 0 + 1 * (z 0).val; have := (z 0).isLt; change _ < 1 at this; omega)
      | ⟨1, _⟩ => exact Fin.ext (by show 0 = 0 + 1 * (z 1).val; have := (z 1).isLt; change _ < 1 at this; omega)
      | ⟨2, _⟩ => exact Fin.ext (by show c.val = 0 + 1 * (z 2).val; rw [hc]; exact (by omega : (z 2).val = 0 + 1 * (z 2).val))
  · have hy0 : (y 0).val < 1 := (y 0).isLt
    have hy1 : (y 1).val < 6 := (y 1).isLt
    have hy2 : (y 2).val < 128 := (y 2).isLt
    rcases (by omega : (y 1).val = 0 ∨ (y 1).val = 1 ∨ (y 1).val = 2 ∨ (y 1).val = 3 ∨ (y 1).val = 4 ∨ (y 1).val = 5) with hk | hk | hk | hk | hk | hk
    · refine ⟨⟨Rect.unit (s := S1x6x128) ![0, 0, 0] ![1, 1, 128] i0, w0⟩, by simp, (Rect.mem_set_unit (inb := i0)).mpr fun a => ?_⟩
      match a with
      | ⟨0, _⟩ => exact ⟨Nat.zero_le _, by show (y 0).val < 0 + 1; omega⟩
      | ⟨1, _⟩ => exact ⟨by show 0 ≤ (y 1).val; omega, by show (y 1).val < 0 + 1; omega⟩
      | ⟨2, _⟩ => exact ⟨Nat.zero_le _, by show (y 2).val < 0 + 128; omega⟩
    · refine ⟨⟨Rect.unit (s := S1x6x128) ![0, 1, 0] ![1, 1, 128] i1, w1⟩, by simp, (Rect.mem_set_unit (inb := i1)).mpr fun a => ?_⟩
      match a with
      | ⟨0, _⟩ => exact ⟨Nat.zero_le _, by show (y 0).val < 0 + 1; omega⟩
      | ⟨1, _⟩ => exact ⟨by show 1 ≤ (y 1).val; omega, by show (y 1).val < 1 + 1; omega⟩
      | ⟨2, _⟩ => exact ⟨Nat.zero_le _, by show (y 2).val < 0 + 128; omega⟩
    · refine ⟨⟨Rect.unit (s := S1x6x128) ![0, 2, 0] ![1, 1, 128] i2, w2⟩, by simp, (Rect.mem_set_unit (inb := i2)).mpr fun a => ?_⟩
      match a with
      | ⟨0, _⟩ => exact ⟨Nat.zero_le _, by show (y 0).val < 0 + 1; omega⟩
      | ⟨1, _⟩ => exact ⟨by show 2 ≤ (y 1).val; omega, by show (y 1).val < 2 + 1; omega⟩
      | ⟨2, _⟩ => exact ⟨Nat.zero_le _, by show (y 2).val < 0 + 128; omega⟩
    · refine ⟨⟨Rect.unit (s := S1x6x128) ![0, 3, 0] ![1, 1, 128] i3, w3⟩, by simp, (Rect.mem_set_unit (inb := i3)).mpr fun a => ?_⟩
      match a with
      | ⟨0, _⟩ => exact ⟨Nat.zero_le _, by show (y 0).val < 0 + 1; omega⟩
      | ⟨1, _⟩ => exact ⟨by show 3 ≤ (y 1).val; omega, by show (y 1).val < 3 + 1; omega⟩
      | ⟨2, _⟩ => exact ⟨Nat.zero_le _, by show (y 2).val < 0 + 128; omega⟩
    · refine ⟨⟨Rect.unit (s := S1x6x128) ![0, 4, 0] ![1, 1, 128] i4, w4⟩, by simp, (Rect.mem_set_unit (inb := i4)).mpr fun a => ?_⟩
      match a with
      | ⟨0, _⟩ => exact ⟨Nat.zero_le _, by show (y 0).val < 0 + 1; omega⟩
      | ⟨1, _⟩ => exact ⟨by show 4 ≤ (y 1).val; omega, by show (y 1).val < 4 + 1; omega⟩
      | ⟨2, _⟩ => exact ⟨Nat.zero_le _, by show (y 2).val < 0 + 128; omega⟩
    · refine ⟨⟨Rect.unit (s := S1x6x128) ![0, 5, 0] ![1, 1, 128] i5, w5⟩, by simp, (Rect.mem_set_unit (inb := i5)).mpr fun a => ?_⟩
      match a with
      | ⟨0, _⟩ => exact ⟨Nat.zero_le _, by show (y 0).val < 0 + 1; omega⟩
      | ⟨1, _⟩ => exact ⟨by show 5 ≤ (y 1).val; omega, by show (y 1).val < 5 + 1; omega⟩
      | ⟨2, _⟩ => exact ⟨Nat.zero_le _, by show (y 2).val < 0 + 128; omega⟩

/-- Six stores of one row each into the scratch of eight: the six rows read back together are the rows stored. -/
theorem readCov_rows (v : View sig .tc .vmem S8x128 .f32) (G : Vec Ideal S6x128 .f32)
    (iB : ∀ a, (![0, 0] : Fin 2 → Nat) a + (![6, 128] : Fin 2 → Nat) a ≤ S8x128.size a)
    (i5 : ∀ a, (![5, 0] : Fin 2 → Nat) a + (![1, 128] : Fin 2 → Nat) a ≤ S8x128.size a) (w5 : (⟨2, ![1, 128]⟩ : Shape).Idx → EReal)
    (i4 : ∀ a, (![4, 0] : Fin 2 → Nat) a + (![1, 128] : Fin 2 → Nat) a ≤ S8x128.size a) (w4 : (⟨2, ![1, 128]⟩ : Shape).Idx → EReal)
    (i3 : ∀ a, (![3, 0] : Fin 2 → Nat) a + (![1, 128] : Fin 2 → Nat) a ≤ S8x128.size a) (w3 : (⟨2, ![1, 128]⟩ : Shape).Idx → EReal)
    (i2 : ∀ a, (![2, 0] : Fin 2 → Nat) a + (![1, 128] : Fin 2 → Nat) a ≤ S8x128.size a) (w2 : (⟨2, ![1, 128]⟩ : Shape).Idx → EReal)
    (i1 : ∀ a, (![1, 0] : Fin 2 → Nat) a + (![1, 128] : Fin 2 → Nat) a ≤ S8x128.size a) (w1 : (⟨2, ![1, 128]⟩ : Shape).Idx → EReal)
    (i0 : ∀ a, (![0, 0] : Fin 2 → Nat) a + (![1, 128] : Fin 2 → Nat) a ≤ S8x128.size a) (w0 : (⟨2, ![1, 128]⟩ : Shape).Idx → EReal)
    (h5 : ∀ c : Fin 128, w5 (ix2 0 c) = G (ix2 5 c))
    (h4 : ∀ c : Fin 128, w4 (ix2 0 c) = G (ix2 4 c))
    (h3 : ∀ c : Fin 128, w3 (ix2 0 c) = G (ix2 3 c))
    (h2 : ∀ c : Fin 128, w2 (ix2 0 c) = G (ix2 2 c))
    (h1 : ∀ c : Fin 128, w1 (ix2 0 c) = G (ix2 1 c))
    (h0 : ∀ c : Fin 128, w0 (ix2 0 c) = G (ix2 0 c))
    : v.readCov (Val := Elt Ideal) (e := .f32) [⟨Rect.unit (s := S8x128) ![5, 0] ![1, 128] i5, w5⟩, ⟨Rect.unit (s := S8x128) ![4, 0] ![1, 128] i4, w4⟩, ⟨Rect.unit (s := S8x128) ![3, 0] ![1, 128] i3, w3⟩, ⟨Rect.unit (s := S8x128) ![2, 0] ![1, 128] i2, w2⟩, ⟨Rect.unit (s := S8x128) ![1, 0] ![1, 128] i1, w1⟩, ⟨Rect.unit (s := S8x128) ![0, 0] ![1, 128] i0, w0⟩] (Rect.unit (s := S8x128) ![0, 0] ![6, 128] iB).toLoadRect = G := by
  funext j
  have hj0 : (j 0).val < 6 := (j 0).isLt
  have hj1 : (j 1).val < 128 := (j 1).isLt
  refine (View.read_writes_apply_of_pieces (Val := Elt Ideal) (e := .f32) v v.junk
    (fun y => if h : (y 0).val < 6 then G (ix2 ⟨(y 0).val, h⟩ ⟨(y 1).val, (y 1).isLt⟩) else 0) _ ?_ _ ?_).trans ?_
  · intro p hp z
    simp only [List.mem_cons, List.not_mem_nil, or_false] at hp
    rcases hp with rfl | rfl | rfl | rfl | rfl | rfl
    · obtain ⟨c, hc⟩ : ∃ c : Fin 128, c = z 1 := ⟨_, rfl⟩
      have hz : z = ix2 (0 : Fin 1) c := by
        funext a
        match a with
        | ⟨0, _⟩ => exact Fin.ext (by have := (z 0).isLt; change _ < 1 at this; show (z 0).val = 0; omega)
        | ⟨1, _⟩ => exact hc.symm
      have e0 : (((Rect.unit (s := S8x128) ![5, 0] ![1, 128] i5).emb z) 0).val = 5 := by
        show 5 + 1 * (z 0).val = 5; have := (z 0).isLt; change _ < 1 at this; omega
      have e1 : (((Rect.unit (s := S8x128) ![5, 0] ![1, 128] i5).emb z) 1).val = c.val := by
        show 0 + 1 * (z 1).val = c.val; rw [hc]; exact (by omega : 0 + 1 * (z 1).val = (z 1).val)
      refine (congrArg w5 hz).trans ((h5 c).trans ?_)
      rw [dif_pos (by rw [e0]; decide)]
      refine congrArg G (funext fun a => ?_)
      match a with
      | ⟨0, _⟩ => exact Fin.ext e0.symm
      | ⟨1, _⟩ => exact Fin.ext e1.symm
    · obtain ⟨c, hc⟩ : ∃ c : Fin 128, c = z 1 := ⟨_, rfl⟩
      have hz : z = ix2 (0 : Fin 1) c := by
        funext a
        match a with
        | ⟨0, _⟩ => exact Fin.ext (by have := (z 0).isLt; change _ < 1 at this; show (z 0).val = 0; omega)
        | ⟨1, _⟩ => exact hc.symm
      have e0 : (((Rect.unit (s := S8x128) ![4, 0] ![1, 128] i4).emb z) 0).val = 4 := by
        show 4 + 1 * (z 0).val = 4; have := (z 0).isLt; change _ < 1 at this; omega
      have e1 : (((Rect.unit (s := S8x128) ![4, 0] ![1, 128] i4).emb z) 1).val = c.val := by
        show 0 + 1 * (z 1).val = c.val; rw [hc]; exact (by omega : 0 + 1 * (z 1).val = (z 1).val)
      refine (congrArg w4 hz).trans ((h4 c).trans ?_)
      rw [dif_pos (by rw [e0]; decide)]
      refine congrArg G (funext fun a => ?_)
      match a with
      | ⟨0, _⟩ => exact Fin.ext e0.symm
      | ⟨1, _⟩ => exact Fin.ext e1.symm
    · obtain ⟨c, hc⟩ : ∃ c : Fin 128, c = z 1 := ⟨_, rfl⟩
      have hz : z = ix2 (0 : Fin 1) c := by
        funext a
        match a with
        | ⟨0, _⟩ => exact Fin.ext (by have := (z 0).isLt; change _ < 1 at this; show (z 0).val = 0; omega)
        | ⟨1, _⟩ => exact hc.symm
      have e0 : (((Rect.unit (s := S8x128) ![3, 0] ![1, 128] i3).emb z) 0).val = 3 := by
        show 3 + 1 * (z 0).val = 3; have := (z 0).isLt; change _ < 1 at this; omega
      have e1 : (((Rect.unit (s := S8x128) ![3, 0] ![1, 128] i3).emb z) 1).val = c.val := by
        show 0 + 1 * (z 1).val = c.val; rw [hc]; exact (by omega : 0 + 1 * (z 1).val = (z 1).val)
      refine (congrArg w3 hz).trans ((h3 c).trans ?_)
      rw [dif_pos (by rw [e0]; decide)]
      refine congrArg G (funext fun a => ?_)
      match a with
      | ⟨0, _⟩ => exact Fin.ext e0.symm
      | ⟨1, _⟩ => exact Fin.ext e1.symm
    · obtain ⟨c, hc⟩ : ∃ c : Fin 128, c = z 1 := ⟨_, rfl⟩
      have hz : z = ix2 (0 : Fin 1) c := by
        funext a
        match a with
        | ⟨0, _⟩ => exact Fin.ext (by have := (z 0).isLt; change _ < 1 at this; show (z 0).val = 0; omega)
        | ⟨1, _⟩ => exact hc.symm
      have e0 : (((Rect.unit (s := S8x128) ![2, 0] ![1, 128] i2).emb z) 0).val = 2 := by
        show 2 + 1 * (z 0).val = 2; have := (z 0).isLt; change _ < 1 at this; omega
      have e1 : (((Rect.unit (s := S8x128) ![2, 0] ![1, 128] i2).emb z) 1).val = c.val := by
        show 0 + 1 * (z 1).val = c.val; rw [hc]; exact (by omega : 0 + 1 * (z 1).val = (z 1).val)
      refine (congrArg w2 hz).trans ((h2 c).trans ?_)
      rw [dif_pos (by rw [e0]; decide)]
      refine congrArg G (funext fun a => ?_)
      match a with
      | ⟨0, _⟩ => exact Fin.ext e0.symm
      | ⟨1, _⟩ => exact Fin.ext e1.symm
    · obtain ⟨c, hc⟩ : ∃ c : Fin 128, c = z 1 := ⟨_, rfl⟩
      have hz : z = ix2 (0 : Fin 1) c := by
        funext a
        match a with
        | ⟨0, _⟩ => exact Fin.ext (by have := (z 0).isLt; change _ < 1 at this; show (z 0).val = 0; omega)
        | ⟨1, _⟩ => exact hc.symm
      have e0 : (((Rect.unit (s := S8x128) ![1, 0] ![1, 128] i1).emb z) 0).val = 1 := by
        show 1 + 1 * (z 0).val = 1; have := (z 0).isLt; change _ < 1 at this; omega
      have e1 : (((Rect.unit (s := S8x128) ![1, 0] ![1, 128] i1).emb z) 1).val = c.val := by
        show 0 + 1 * (z 1).val = c.val; rw [hc]; exact (by omega : 0 + 1 * (z 1).val = (z 1).val)
      refine (congrArg w1 hz).trans ((h1 c).trans ?_)
      rw [dif_pos (by rw [e0]; decide)]
      refine congrArg G (funext fun a => ?_)
      match a with
      | ⟨0, _⟩ => exact Fin.ext e0.symm
      | ⟨1, _⟩ => exact Fin.ext e1.symm
    · obtain ⟨c, hc⟩ : ∃ c : Fin 128, c = z 1 := ⟨_, rfl⟩
      have hz : z = ix2 (0 : Fin 1) c := by
        funext a
        match a with
        | ⟨0, _⟩ => exact Fin.ext (by have := (z 0).isLt; change _ < 1 at this; show (z 0).val = 0; omega)
        | ⟨1, _⟩ => exact hc.symm
      have e0 : (((Rect.unit (s := S8x128) ![0, 0] ![1, 128] i0).emb z) 0).val = 0 := by
        show 0 + 1 * (z 0).val = 0; have := (z 0).isLt; change _ < 1 at this; omega
      have e1 : (((Rect.unit (s := S8x128) ![0, 0] ![1, 128] i0).emb z) 1).val = c.val := by
        show 0 + 1 * (z 1).val = c.val; rw [hc]; exact (by omega : 0 + 1 * (z 1).val = (z 1).val)
      refine (congrArg w0 hz).trans ((h0 c).trans ?_)
      rw [dif_pos (by rw [e0]; decide)]
      refine congrArg G (funext fun a => ?_)
      match a with
      | ⟨0, _⟩ => exact Fin.ext e0.symm
      | ⟨1, _⟩ => exact Fin.ext e1.symm
  · have e0 : (((Rect.unit (s := S8x128) ![0, 0] ![6, 128] iB).toLoadRect.idx j) 0).val = (j 0).val := by
      show 0 + 1 * (j 0).val = (j 0).val; omega
    have e1 : (((Rect.unit (s := S8x128) ![0, 0] ![6, 128] iB).toLoadRect.idx j) 1).val = (j 1).val := by
      show 0 + 1 * (j 1).val = (j 1).val; omega
    rcases (by omega : (j 0).val = 0 ∨ (j 0).val = 1 ∨ (j 0).val = 2 ∨ (j 0).val = 3 ∨ (j 0).val = 4 ∨ (j 0).val = 5) with hk | hk | hk | hk | hk | hk
    · refine ⟨⟨Rect.unit (s := S8x128) ![0, 0] ![1, 128] i0, w0⟩, by simp, (Rect.mem_set_unit (inb := i0)).mpr fun a => ?_⟩
      match a with
      | ⟨0, _⟩ => exact ⟨e0.symm ▸ (by show 0 ≤ (j 0).val; omega), e0.symm ▸ (by show (j 0).val < 0 + 1; omega)⟩
      | ⟨1, _⟩ => exact ⟨Nat.zero_le _, e1.symm ▸ (by show (j 1).val < 0 + 128; omega)⟩
    · refine ⟨⟨Rect.unit (s := S8x128) ![1, 0] ![1, 128] i1, w1⟩, by simp, (Rect.mem_set_unit (inb := i1)).mpr fun a => ?_⟩
      match a with
      | ⟨0, _⟩ => exact ⟨e0.symm ▸ (by show 1 ≤ (j 0).val; omega), e0.symm ▸ (by show (j 0).val < 1 + 1; omega)⟩
      | ⟨1, _⟩ => exact ⟨Nat.zero_le _, e1.symm ▸ (by show (j 1).val < 0 + 128; omega)⟩
    · refine ⟨⟨Rect.unit (s := S8x128) ![2, 0] ![1, 128] i2, w2⟩, by simp, (Rect.mem_set_unit (inb := i2)).mpr fun a => ?_⟩
      match a with
      | ⟨0, _⟩ => exact ⟨e0.symm ▸ (by show 2 ≤ (j 0).val; omega), e0.symm ▸ (by show (j 0).val < 2 + 1; omega)⟩
      | ⟨1, _⟩ => exact ⟨Nat.zero_le _, e1.symm ▸ (by show (j 1).val < 0 + 128; omega)⟩
    · refine ⟨⟨Rect.unit (s := S8x128) ![3, 0] ![1, 128] i3, w3⟩, by simp, (Rect.mem_set_unit (inb := i3)).mpr fun a => ?_⟩
      match a with
      | ⟨0, _⟩ => exact ⟨e0.symm ▸ (by show 3 ≤ (j 0).val; omega), e0.symm ▸ (by show (j 0).val < 3 + 1; omega)⟩
      | ⟨1, _⟩ => exact ⟨Nat.zero_le _, e1.symm ▸ (by show (j 1).val < 0 + 128; omega)⟩
    · refine ⟨⟨Rect.unit (s := S8x128) ![4, 0] ![1, 128] i4, w4⟩, by simp, (Rect.mem_set_unit (inb := i4)).mpr fun a => ?_⟩
      match a with
      | ⟨0, _⟩ => exact ⟨e0.symm ▸ (by show 4 ≤ (j 0).val; omega), e0.symm ▸ (by show (j 0).val < 4 + 1; omega)⟩
      | ⟨1, _⟩ => exact ⟨Nat.zero_le _, e1.symm ▸ (by show (j 1).val < 0 + 128; omega)⟩
    · refine ⟨⟨Rect.unit (s := S8x128) ![5, 0] ![1, 128] i5, w5⟩, by simp, (Rect.mem_set_unit (inb := i5)).mpr fun a => ?_⟩
      match a with
      | ⟨0, _⟩ => exact ⟨e0.symm ▸ (by show 5 ≤ (j 0).val; omega), e0.symm ▸ (by show (j 0).val < 5 + 1; omega)⟩
      | ⟨1, _⟩ => exact ⟨Nat.zero_le _, e1.symm ▸ (by show (j 1).val < 0 + 128; omega)⟩
  · have e0 : (((Rect.unit (s := S8x128) ![0, 0] ![6, 128] iB).toLoadRect.idx j) 0).val = (j 0).val := by
      show 0 + 1 * (j 0).val = (j 0).val; omega
    have e1 : (((Rect.unit (s := S8x128) ![0, 0] ![6, 128] iB).toLoadRect.idx j) 1).val = (j 1).val := by
      show 0 + 1 * (j 1).val = (j 1).val; omega
    rw [dif_pos (by rw [e0]; exact hj0)]
    refine congrArg G (funext fun a => ?_)
    match a with
    | ⟨0, _⟩ => exact Fin.ext e0
    | ⟨1, _⟩ => exact Fin.ext e1

end Cert.KernelIdeal.Gen

end
-- ==== Proof.Products.lean ====
module

public import proofs.«01_k».proof.Proof.Runs
public import proofs.«01_k».proof.Proof.Words
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 4000000 in
/-- The second stage of one grid point, from the inputs, the codes block and the three scratches it reads: it ends with the
    three output blocks at `firstV`, `restV` and `tailV`, and everything it read unchanged. -/
theorem productsRun (c : Dev nD) (i : grid0.Coords) (arg2 : Memref sig .tc .vmem S1x512x1280 .bf16) (harg2 : arg2.IsWhole) (arg3 : Memref sig .tc .vmem S12x1280x128 .fp8e4m3) (harg3 : arg3.IsWhole) (arg4 : Memref sig .tc .vmem S1x128 .f32) (harg4 : arg4.IsWhole) (arg5 : Memref sig .tc .vmem S1x128 .f32) (harg5 : arg5.IsWhole) (arg6 : Memref sig .tc .vmem S1x6x128 .f32) (harg6 : arg6.IsWhole) (arg7 : Memref sig .tc .vmem S1x6x128 .bf16) (harg7 : arg7.IsWhole) (arg8 : Memref sig .tc .vmem S1x3066x128 .bf16) (harg8 : arg8.IsWhole) (arg9 : Memref sig .tc .vmem S1x6x128 .f32) (harg9 : arg9.IsWhole) (arg10 : Memref sig .tc .vmem S1x512x1280 .fp8e4m3) (harg10 : arg10.IsWhole) (arg11 : Memref sig .tc .vmem S1x1x512 .f32) (harg11 : arg11.IsWhole) (arg12 : Memref sig .tc .vmem S512x1280 .fp8e4m3) (harg12 : arg12.IsWhole) (arg13 : Memref sig .tc .vmem S512x128 .f32) (harg13 : arg13.IsWhole) (arg14 : Memref sig .tc .vmem S512x128 .f32) (harg14 : arg14.IsWhole) (arg15 : Memref sig .tc .vmem S8x128 .f32) (harg15 : arg15.IsWhole)
    (x0 : Vec Ideal S1x512x1280 .bf16) (x1 : Vec Ideal S12x1280x128 .fp8e4m3) (x2 : Vec Ideal S1x128 .f32) (x3 : Vec Ideal S1x128 .f32) (x4 : Vec Ideal S1x6x128 .f32) (y8 : Vec Ideal S1x512x1280 .fp8e4m3) (y9 : Vec Ideal S1x1x512 .f32) (z0 : Vec Ideal S512x1280 .fp8e4m3) (z1 : Vec Ideal S512x128 .f32) (z2 : Vec Ideal S512x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare y8 ∗ owns (c : Thread nD τ) arg11 fullShare y9 ∗ owns (c : Thread nD τ) arg12 fullShare z0 ∗ owns (c : Thread nD τ) arg13 fullShare z1 ∗ owns (c : Thread nD τ) arg14 fullShare z2 ∗ (∃ d, owns (c : Thread nD τ) arg15 fullShare d) ∗ ((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (firstV x1 x2 x3 x4 z0 z2) ∗ owns (c : Thread nD τ) arg8 fullShare (restV x1 x2 x3 y8 z0 z1 z2) ∗ owns (c : Thread nD τ) arg9 fullShare (tailV x1 x2 y8 z1) ∗ owns (c : Thread nD τ) arg10 fullShare y8 ∗ owns (c : Thread nD τ) arg11 fullShare y9 ∗ owns (c : Thread nD τ) arg12 fullShare z0 ∗ owns (c : Thread nD τ) arg13 fullShare z1 ∗ owns (c : Thread nD τ) arg14 fullShare z2 ∗ (∃ d, owns (c : Thread nD τ) arg15 fullShare d)) -∗ K ⟨⟩))
      ⊢ wp frame (wpE (defs₀ (F := Ideal)) Variants.none c none) E (products i arg2 harg2 arg3 harg3 arg4 harg4 arg5 harg5 arg6 harg6 arg7 harg7 arg8 harg8 arg9 harg9 arg10 harg10 arg11 harg11 arg12 harg12 arg13 harg13 arg14 harg14 arg15 harg15) K := by
    unfold products productsHead
    simp only [k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, ⟨%fs0, %hfs0, HS0⟩, ⟨%fs1, %hfs1, HS1⟩, ⟨%fs2, %hfs2, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hf8; obtain rfl := harg11.eq_unread hf9; obtain rfl := harg12.eq_unread hfs0; obtain rfl := harg13.eq_unread hfs1; obtain rfl := harg14.eq_unread hfs2
    sl_exec
    sl_step
    iapply Hk

    have h6 : arg8.view.read (Elt Ideal) (productsRun.sl.H6_w6 c arg3 harg3 arg4 harg4 arg5 harg5 arg8 harg8 arg10 harg10 arg12 harg12 arg13 harg13 arg14 harg14 x1 x2 x3 y8 z0 z1 z2 f6) = restV x1 x2 x3 y8 z0 z1 z2 := by
      clear hf0 hf1 hf2 hf3 hf4 hf8 hf9 hfs0 hfs1 hfs2
      refine read_pairs arg8.view reshapes_S1x3066x128_S1x1533x2x128.1 f6 _ (betweenAt x1 x2 x3 y8 z0 z1 z2) (restV_at x1 x2 x3 y8 z0 z1 z2) _ _ _ _ _ _ _ _ _ _ _ _ _ _ _ _ _ _ ?_ ?_ ?_ ?_ ?_ ?_
      all_goals
        sl_unfold_words
        dsimp only
        simp only [View.readAt_eq_ld, harg3.read_unread, harg4.read_unread, harg5.read_unread, harg10.read_unread, harg12.read_unread, harg13.read_unread, harg14.read_unread]
        intro a p c
        unfold_payloads
        pointwise
        match p with
        | ⟨0, _⟩ => rfl
        | ⟨1, _⟩ => rfl
    isplitl [H0]; · iexists _; isplitr; · ipureintro; exact (harg2.read_unread x0)
                    · iexact H0
    isplitl [H1]; · iexists _; isplitr; · ipureintro; exact (harg3.read_unread x1)
                    · iexact H1
    isplitl [H2]; · iexists _; isplitr; · ipureintro; exact (harg4.read_unread x2)
                    · iexact H2
    isplitl [H3]; · iexists _; isplitr; · ipureintro; exact (harg5.read_unread x3)
                    · iexact H3
    isplitl [H4]; · iexists _; isplitr; · ipureintro; exact (harg6.read_unread x4)
                    · iexact H4
    isplitl [H5]
    · iexists _; isplitr; rotate_left
      · iexact H5
      ipureintro
      refine (View.read_writes_full arg7.view f5 _ _ []).trans ?_
      refine (congrArg (fun V => k0_pay108 _ V _) (readCov_rows arg15.view (fun j => tapDot (fun k => z0 (ix2 511 k)) x1 ⟨(j 0).val, (j 0).isLt.trans_le (by decide)⟩ (j 1) * z2 (ix2 511 (j 1)) * x2 (ix2 0 (j 1))) _ _ _ _ _ _ _ _ _ _ _ _ _ ?_ ?_ ?_ ?_ ?_ ?_)).trans ?_
      rotate_right
      · simp only [View.readAt_eq_ld, harg3.read_unread, harg4.read_unread, harg5.read_unread, harg6.read_unread, harg10.read_unread, harg12.read_unread, harg13.read_unread, harg14.read_unread]
        funext y
        idx_vars y
        unfold_payloads
        pointwise
        rfl
      all_goals
        clear hf0 hf1 hf2 hf3 hf4 hf8 hf9 hfs0 hfs1 hfs2 h6
        sl_unfold_words
        dsimp only
        simp only [View.readAt_eq_ld, harg3.read_unread, harg4.read_unread, harg5.read_unread, harg6.read_unread, harg10.read_unread, harg12.read_unread, harg13.read_unread, harg14.read_unread]
        intro c
        unfold_payloads
        pointwise
        rfl
    isplitl [H6]; · iexists _; isplitr; · ipureintro; exact h6
                    · iexact H6
    isplitl [H7]
    · iexists _; isplitr; rotate_left
      · iexact H7
      ipureintro
      refine read_rows arg9.view f7 _ _ _ _ _ _ _ _ _ _ _ _ _ ?_ ?_ ?_ ?_ ?_ ?_
      all_goals
        clear hf0 hf1 hf2 hf3 hf4 hf8 hf9 hfs0 hfs1 hfs2 h6
        sl_unfold_words
        dsimp only
        simp only [View.readAt_eq_ld, harg3.read_unread, harg4.read_unread, harg5.read_unread, harg6.read_unread, harg10.read_unread, harg12.read_unread, harg13.read_unread, harg14.read_unread]
        intro c
        unfold_payloads
        pointwise
        rfl
    isplitl [H8]; · iexists _; isplitr; · ipureintro; exact (harg10.read_unread y8)
                    · iexact H8
    isplitl [H9]; · iexists _; isplitr; · ipureintro; exact (harg11.read_unread y9)
                    · iexact H9
    isplitl [HS0]; · iexists _; isplitr; · ipureintro; exact (harg12.read_unread z0)
                     · iexact HS0
    isplitl [HS1]; · iexists _; isplitr; · ipureintro; exact (harg13.read_unread z1)
                     · iexact HS1
    isplitl [HS2]; · iexists _; isplitr; · ipureintro; exact (harg14.read_unread z2)
                     · iexact HS2
    iexists _, _; isplitr; swap; · iexact HS3
    ipureintro; rfl

end Cert.KernelIdeal.Gen

end
-- ==== Proof.Quantiser.lean ====
/-
  The first stage's arithmetic, one chunk of 128 frames: the four chunks compute the same function of their frames, cut
  into named values differently; and that function at one frame.
-/
module

public import proofs.«01_k».proof.Proof.Gen.KernelIdeal.Skeleton
public import Idealize.ShloMosaic.Lib.Pointwise

@[expose] public section

set_option maxRecDepth 16384

noncomputable section

namespace Cert.KernelIdeal.Gen

open Idealize.ShloMosaic

/-- The codes of a chunk of 128 frames. -/
def codesChunk (X : Vec Ideal S1x128x1280 .bf16) : FVec Ideal S1x128x1280 .fp8e4m3 :=
  k0_pay7 (k0_pay6 (k0_pay1 X) (k0_pay2 X) (k0_pay3 X))

/-- The scales of a chunk of 128 frames, one column. -/
def scaleCol (X : Vec Ideal S1x128x1280 .bf16) : FVec Ideal S128x1 .f32 := k0_pay5 (k0_pay2 X) (k0_pay3 X)

theorem codes_chunk2 (X : Vec Ideal S1x128x1280 .bf16) :
    k0_pay16 (k0_pay11 X) (k0_pay15 (k0_pay12 X) (k0_pay13 X) (k0_pay14 X)) = codesChunk X := rfl

theorem scales_chunk2 (X : Vec Ideal S1x128x1280 .bf16) :
    k0_pay18 (F := Ideal) (k0_pay15 (k0_pay12 X) (k0_pay13 X) (k0_pay14 X)) = k0_pay9 (scaleCol X) := rfl

theorem row_chunk2 (X : Vec Ideal S1x128x1280 .bf16) :
    k0_pay19 (F := Ideal) (k0_pay15 (k0_pay12 X) (k0_pay13 X) (k0_pay14 X)) = k0_pay10 (scaleCol X) := rfl

theorem codes_chunk3 (X : Vec Ideal S1x128x1280 .bf16) :
    k0_pay27 (k0_pay20 X) (k0_pay23 (k0_pay21 X) k0_pay22) (k0_pay24 (k0_pay21 X) k0_pay22) (k0_pay25 (k0_pay21 X) k0_pay22)
      = codesChunk X := rfl

theorem scales_chunk3 (X : Vec Ideal S1x128x1280 .bf16) :
    k0_pay29 (k0_pay28 (k0_pay23 (k0_pay21 X) k0_pay22) (k0_pay24 (k0_pay21 X) k0_pay22) (k0_pay25 (k0_pay21 X) k0_pay22))
      = k0_pay9 (scaleCol X) := rfl

theorem row_chunk3 (X : Vec Ideal S1x128x1280 .bf16) :
    k0_pay30 (k0_pay28 (k0_pay23 (k0_pay21 X) k0_pay22) (k0_pay24 (k0_pay21 X) k0_pay22) (k0_pay25 (k0_pay21 X) k0_pay22))
      = k0_pay10 (scaleCol X) := rfl

theorem codes_chunk4 (X : Vec Ideal S1x128x1280 .bf16) :
    k0_pay40 (k0_pay31 X) (k0_pay38 (k0_pay32 X) (k0_pay33 X) (k0_pay34 X) (k0_pay35 X)) k0_pay39 = codesChunk X := rfl

theorem scales_chunk4 (X : Vec Ideal S1x128x1280 .bf16) :
    k0_pay42 (k0_pay37 (k0_pay32 X) (k0_pay33 X) (k0_pay34 X) (k0_pay35 X)) = k0_pay9 (scaleCol X) := rfl

theorem row_chunk4 (X : Vec Ideal S1x128x1280 .bf16) :
    k0_pay43 (k0_pay37 (k0_pay32 X) (k0_pay33 X) (k0_pay34 X) (k0_pay35 X)) = k0_pay10 (scaleCol X) := rfl

/-! ## One frame -/

/-- The largest magnitude of a frame. -/
def frameMax (x : Fin 1280 → EReal) : EReal :=
  Finset.fold max (Ideal.ofBits .bf16 0xFF80#16) (fun k => FloatOps.absf (F := Ideal) (φ := .bf16) (x k)) Finset.univ

/-- One step of the search for the exponent field: `w` more, unless `v` is less than the power of two with that field. -/
def searchStep (v : EReal) (n w : BitVec 32) : BitVec 32 :=
  if v < Ideal.ofBits .f32 (IntOp.shli ArithUnit.vector (IntOp.addi n w) 23#32) then n else IntOp.addi n w

/-- The exponent field of `v`, found by halving. -/
def searchField (v : EReal) : BitVec 32 :=
  searchStep v (searchStep v (searchStep v (searchStep v (searchStep v (searchStep v (searchStep v (searchStep v 0#32
    128#32) 64#32) 32#32) 16#32) 8#32) 4#32) 2#32) 1#32

/-- The exponent of `v` as `frexp` takes it: the field less 126, and 0 at field 0. -/
def frexpExp (v : EReal) : BitVec 32 :=
  Scalar.select (IntOp.cmpi CmpIPredicate.eq (searchField v) 0#32) 0#32 (IntOp.subi (searchField v) 126#32)

/-- The exponent of a frame: of its largest magnitude over 448. -/
def frameExp (x : Fin 1280 → EReal) : BitVec 32 := frexpExp (frameMax x * Ideal.ofBits .f32 0x3B124925#32)

/-- The scale of a frame: two to its exponent. -/
def frameScale (x : Fin 1280 → EReal) : EReal :=
  Ideal.ofBits .f32 (IntOp.shli ArithUnit.vector (IntOp.addi 127#32 (frameExp x)) 23#32)

/-- A code of a frame: the element times two to minus the exponent, clipped to ±448. -/
def frameCode (x : Fin 1280 → EReal) (k : Fin 1280) : EReal :=
  min (Ideal.ofBits .f32 0x43E00000#32) (max (Ideal.ofBits .f32 0xC3E00000#32)
    (x k * Ideal.ofBits .f32 (IntOp.shli ArithUnit.vector (IntOp.subi 127#32 (frameExp x)) 23#32)))

/-! ## A chunk, frame by frame -/

/-- One step of the search on a chunk. -/
def stepV (v : FVec Ideal S128x1 .f32) (n : IVec S128x1 32) (w : BitVec 32) : IVec S128x1 32 :=
  select (cmpf .olt v (bitcastToFloat .f32 (shli (addi n (broadcast S128x1 w)) (broadcast S128x1 23#32)))) n (addi n (broadcast S128x1 w))

/-- The exponent field of a chunk's values. -/
def fieldV (v : FVec Ideal S128x1 .f32) : IVec S128x1 32 :=
  stepV v (stepV v (stepV v (stepV v (stepV v (stepV v (stepV v (stepV v (broadcast S128x1 0#32)
    128#32) 64#32) 32#32) 16#32) 8#32) 4#32) 2#32) 1#32

/-- The exponents of a chunk's values. -/
def expoV (v : FVec Ideal S128x1 .f32) : IVec S128x1 32 :=
  select (cmpi .eq (fieldV v) (broadcast S128x1 0#32)) (broadcast S128x1 0#32) (subi (fieldV v) (broadcast S128x1 126#32))

theorem pay4_eq (X : Vec Ideal S1x128x1280 .bf16) : k0_pay4 (k0_pay2 X) (k0_pay3 X) = expoV (k0_pay2 X) := rfl

theorem stepV_apply (v : FVec Ideal S128x1 .f32) (n : IVec S128x1 32) (w : BitVec 32) (r : Fin 128) :
    stepV v n w (ix2 r 0) = searchStep (v (ix2 r 0)) (n (ix2 r 0)) w := by
  unfold stepV
  pointwise
  rfl

theorem expoV_apply (v : FVec Ideal S128x1 .f32) (r : Fin 128) : expoV v (ix2 r 0) = frexpExp (v (ix2 r 0)) := by
  unfold expoV
  pointwise
  unfold fieldV
  simp only [stepV_apply]
  rfl

theorem pay2_apply (X : Vec Ideal S1x128x1280 .bf16) (r : Fin 128) :
    k0_pay2 X (ix2 r 0) = frameMax (fun k => X (ix3 0 r k)) * Ideal.ofBits .f32 0x3B124925#32 := by
  unfold_payloads
  pointwise
  rfl

/-- A chunk's scale column holds each frame's scale. -/
theorem scaleCol_apply (X : Vec Ideal S1x128x1280 .bf16) (r : Fin 128) :
    scaleCol X (ix2 r 0) = frameScale (fun k => X (ix3 0 r k)) := by
  unfold scaleCol k0_pay5
  simp only [pay4_eq]
  pointwise
  rw [expoV_apply, pay2_apply]
  rfl

theorem scaleLanes_apply (X : Vec Ideal S1x128x1280 .bf16) (r c : Fin 128) :
    k0_pay9 (scaleCol X) (ix2 r c) = frameScale (fun k => X (ix3 0 r k)) := by
  rw [← scaleCol_apply X r]
  unfold k0_pay9 k0_pay8
  pointwise

theorem scaleRow_apply (X : Vec Ideal S1x128x1280 .bf16) (r : Fin 128) :
    k0_pay10 (scaleCol X) (ix3 0 0 r) = frameScale (fun k => X (ix3 0 r k)) := by
  rw [← scaleCol_apply X r]
  unfold k0_pay10 k0_pay8
  pointwise

/-- A chunk's codes are each frame's codes. -/
theorem codesChunk_apply (X : Vec Ideal S1x128x1280 .bf16) (r : Fin 128) (k : Fin 1280) :
    codesChunk X (ix3 0 r k) = frameCode (fun k => X (ix3 0 r k)) k := by
  unfold codesChunk k0_pay7 k0_pay6 k0_pay1
  simp only [pay4_eq]
  pointwise
  rw [expoV_apply, pay2_apply]
  rfl

/-! ## A batch -/

/-- Frame `i` of a block of frames. -/
def frameOf (x : Vec Ideal S1x512x1280 .bf16) (i : Fin 512) : Fin 1280 → EReal := fun k => x (ix3 0 i k)

/-- The codes of a block. -/
def codesV (x : Vec Ideal S1x512x1280 .bf16) : Vec Ideal S1x512x1280 .fp8e4m3 := fun y => frameCode (frameOf x (y 1)) (y 2)

/-- The scales of a block, one row. -/
def scaleRowV (x : Vec Ideal S1x512x1280 .bf16) : Vec Ideal S1x1x512 .f32 := fun y => frameScale (frameOf x (y 2))

/-- The scales of a block, each on every lane of its row. -/
def scaleV (x : Vec Ideal S1x512x1280 .bf16) : Vec Ideal S512x128 .f32 := fun y => frameScale (frameOf x (y 0))

/-- The frame ahead of frame `i`, the first after the last. -/
def ahead (i : Fin 512) : Fin 512 := ⟨(i.val + 1) % 512, Nat.mod_lt _ (by decide)⟩

/-- The codes rotated by one frame: row `i` is the codes of the frame ahead of `i`. -/
def rotCodesV (x : Vec Ideal S1x512x1280 .bf16) : Vec Ideal S512x1280 .fp8e4m3 :=
  fun y => frameCode (frameOf x (ahead (y 0))) (y 1)

/-- The scales rotated by one frame. -/
def rotScaleV (x : Vec Ideal S1x512x1280 .bf16) : Vec Ideal S512x128 .f32 := fun y => frameScale (frameOf x (ahead (y 0)))

/-- What the kernel stores as rotated codes. -/
theorem rotCodes_eq (x : Vec Ideal S1x512x1280 .bf16) : k0_pay44 (F := Ideal) (codesV x) = rotCodesV x := by
  funext y
  idx_vars y
  unfold_payloads
  pointwise
  split
  · show frameCode (frameOf x _) y1 = frameCode (frameOf x _) y1
    rw [show (⟨1 + y0.val, by omega⟩ : Fin 512) = ahead y0 from Fin.ext (by show 1 + y0.val = (y0.val + 1) % 512; omega)]
    try rfl
  · show frameCode (frameOf x _) y1 = frameCode (frameOf x _) y1
    rw [show (⟨y0.val - 511, by omega⟩ : Fin 512) = ahead y0 from Fin.ext (by show y0.val - 511 = (y0.val + 1) % 512; omega)]
    try rfl

/-- What the kernel stores as rotated scales. -/
theorem rotScales_eq (x : Vec Ideal S1x512x1280 .bf16) : k0_pay46 (F := Ideal) (k0_pay45 (F := Ideal) (scaleV x)) = rotScaleV x := by
  funext y
  idx_vars y
  unfold_payloads
  pointwise
  split
  · show frameScale (frameOf x _) = frameScale (frameOf x _)
    rw [show (⟨1 + y0.val, by omega⟩ : Fin 512) = ahead y0 from Fin.ext (by show 1 + y0.val = (y0.val + 1) % 512; omega)]
    try rfl
  · show frameScale (frameOf x _) = frameScale (frameOf x _)
    rw [show (⟨y0.val - 511, by omega⟩ : Fin 512) = ahead y0 from Fin.ext (by show y0.val - 511 = (y0.val + 1) % 512; omega)]
    try rfl

end Cert.KernelIdeal.Gen

end
-- ==== Proof.Chunks.lean ====
/-
  The four chunks of a block of frames, stored one after the other, hold the block's codes and scales.
-/
module

public import proofs.«01_k».proof.Proof.Quantiser
public import Idealize.ShloMosaic.Lib.Pointwise
public import Idealize.ShloMosaic.Lib.VecWindow
public import Idealize.ShloMosaic.Lib.Ring

@[expose] public section

set_option maxRecDepth 16384

noncomputable section

namespace Cert.KernelIdeal.Gen

open Idealize.ShloMosaic

/-- The frames `o … o + 127` of a block. -/
abbrev framesAt (o : Nat) (inb : ∀ a, (![0, o, 0] : Fin 3 → Nat) a + (![1, 128, 1280] : Fin 3 → Nat) a ≤ S1x512x1280.size a) : Rect S1x512x1280 :=
  Rect.unit ![0, o, 0] ![1, 128, 1280] inb

/-- The entries `o … o + 127` of a row of scales. -/
abbrev rowAt (o : Nat) (inb : ∀ a, (![0, 0, o] : Fin 3 → Nat) a + (![1, 1, 128] : Fin 3 → Nat) a ≤ S1x1x512.size a) : Rect S1x1x512 :=
  Rect.unit ![0, 0, o] ![1, 1, 128] inb

/-- The rows `o … o + 127` of the scales. -/
abbrev lanesAt (o : Nat) (inb : ∀ a, (![o, 0] : Fin 2 → Nat) a + (![128, 128] : Fin 2 → Nat) a ≤ S512x128.size a) : Rect S512x128 :=
  Rect.unit ![o, 0] ![128, 128] inb

/-- A frame of a chunk is a frame of the block. -/
theorem frame_chunk (x0 : Vec Ideal S1x512x1280 .bf16) (o : Nat) (inb) (r : Fin 128) (i : Fin 512) (hi : i.val = o + r.val) :
    (fun k => View.ld x0 (framesAt o inb) (ix3 0 r k : S1x128x1280.Idx)) = frameOf x0 i := by
  funext k
  refine congrArg x0 (funext fun a => ?_)
  match a with
  | ⟨0, _⟩ => rfl
  | ⟨1, _⟩ => exact Fin.ext (by show o + 1 * r.val = i.val; omega)
  | ⟨2, _⟩ => exact Fin.ext (by show 0 + 1 * k.val = k.val; omega)

theorem codes_piece (x0 : Vec Ideal S1x512x1280 .bf16) (o : Nat) (inb) (inb') (z : (framesAt o inb').shape.Idx) :
    codesChunk (View.ld x0 (framesAt o inb)) z = codesV x0 ((framesAt o inb').emb z) := by
  have hz : z = (ix3 0 (z 1) (z 2) : S1x128x1280.Idx) := by
    funext a
    match a with
    | ⟨0, _⟩ => exact Fin.ext (by have := (z 0).isLt; change _ < 1 at this; show (z 0).val = 0; omega)
    | ⟨1, _⟩ => rfl
    | ⟨2, _⟩ => rfl
  refine (congrArg (codesChunk _) hz).trans ((codesChunk_apply _ (z 1) (z 2)).trans ?_)
  unfold codesV
  rw [frame_chunk x0 o inb (z 1) (((framesAt o inb').emb z) 1) (by show o + 1 * _ = _; omega)]
  exact congrArg _ (Fin.ext (by show _ = 0 + 1 * _; omega))

theorem row_piece (x0 : Vec Ideal S1x512x1280 .bf16) (o : Nat) (inb) (inb') (z : (rowAt o inb').shape.Idx) :
    k0_pay10 (scaleCol (View.ld x0 (framesAt o inb))) z = scaleRowV x0 ((rowAt o inb').emb z) := by
  have hz : z = (ix3 0 0 (z 2) : S1x1x128.Idx) := by
    funext a
    match a with
    | ⟨0, _⟩ => exact Fin.ext (by have := (z 0).isLt; change _ < 1 at this; show (z 0).val = 0; omega)
    | ⟨1, _⟩ => exact Fin.ext (by have := (z 1).isLt; change _ < 1 at this; show (z 1).val = 0; omega)
    | ⟨2, _⟩ => rfl
  refine (congrArg (k0_pay10 _) hz).trans ((scaleRow_apply _ (z 2)).trans ?_)
  unfold scaleRowV
  rw [frame_chunk x0 o inb (z 2) (((rowAt o inb').emb z) 2) (by show o + 1 * _ = _; omega)]

theorem lanes_piece (x0 : Vec Ideal S1x512x1280 .bf16) (o : Nat) (inb) (inb') (z : (lanesAt o inb').shape.Idx) :
    k0_pay9 (scaleCol (View.ld x0 (framesAt o inb))) z = scaleV x0 ((lanesAt o inb').emb z) := by
  have hz : z = (ix2 (z 0) (z 1) : S128x128.Idx) := by
    funext a
    match a with
    | ⟨0, _⟩ => rfl
    | ⟨1, _⟩ => rfl
  refine (congrArg (k0_pay9 _) hz).trans ((scaleLanes_apply _ (z 0) (z 1)).trans ?_)
  unfold scaleV
  rw [frame_chunk x0 o inb (z 0) (((lanesAt o inb').emb z) 0) (by show o + 1 * _ = _; omega)]

/-- The four stores of codes leave the block's codes. -/
theorem read_codes (v : View sig .tc .vmem S1x512x1280 .fp8e4m3) (f : v.ty.Contents (Elt Ideal)) (x0 : Vec Ideal S1x512x1280 .bf16)
    (i0 i1 i2 i3 w0 w1 w2 w3) (j0 j1 j2 j3)
    (h0 : w0 = codesChunk (View.ld x0 (framesAt 0 j0))) (h1 : w1 = codesChunk (View.ld x0 (framesAt 128 j1)))
    (h2 : w2 = codesChunk (View.ld x0 (framesAt 256 j2))) (h3 : w3 = codesChunk (View.ld x0 (framesAt 384 j3))) :
    v.read (Elt Ideal) (v.writes (Elt Ideal) f [⟨framesAt 384 i3, w3⟩, ⟨framesAt 256 i2, w2⟩, ⟨framesAt 128 i1, w1⟩, ⟨framesAt 0 i0, w0⟩])
      = codesV x0 := by
  subst h0 h1 h2 h3
  funext y
  refine View.read_writes_apply_of_pieces (v := v) (Val := Elt Ideal) (e := .fp8e4m3) _ (codesV x0) _ ?_ y ?_
  · intro p hp z
    simp only [List.mem_cons, List.not_mem_nil, or_false] at hp
    rcases hp with rfl | rfl | rfl | rfl
    · exact codes_piece x0 384 j3 i3 z
    · exact codes_piece x0 256 j2 i2 z
    · exact codes_piece x0 128 j1 i1 z
    · exact codes_piece x0 0 j0 i0 z
  · exact View.cover_of_tiledL _ ![1, 128, 1280] (by sl_kernel_rfl) y

/-- The four stores of rows of scales leave the block's row of scales. -/
theorem read_row (v : View sig .tc .vmem S1x1x512 .f32) (f : v.ty.Contents (Elt Ideal)) (x0 : Vec Ideal S1x512x1280 .bf16)
    (i0 i1 i2 i3 w0 w1 w2 w3) (j0 j1 j2 j3)
    (h0 : w0 = k0_pay10 (scaleCol (View.ld x0 (framesAt 0 j0)))) (h1 : w1 = k0_pay10 (scaleCol (View.ld x0 (framesAt 128 j1))))
    (h2 : w2 = k0_pay10 (scaleCol (View.ld x0 (framesAt 256 j2)))) (h3 : w3 = k0_pay10 (scaleCol (View.ld x0 (framesAt 384 j3)))) :
    v.read (Elt Ideal) (v.writes (Elt Ideal) f [⟨rowAt 384 i3, w3⟩, ⟨rowAt 256 i2, w2⟩, ⟨rowAt 128 i1, w1⟩, ⟨rowAt 0 i0, w0⟩])
      = scaleRowV x0 := by
  subst h0 h1 h2 h3
  funext y
  refine View.read_writes_apply_of_pieces (v := v) (Val := Elt Ideal) (e := .f32) _ (scaleRowV x0) _ ?_ y ?_
  · intro p hp z
    simp only [List.mem_cons, List.not_mem_nil, or_false] at hp
    rcases hp with rfl | rfl | rfl | rfl
    · exact row_piece x0 384 j3 i3 z
    · exact row_piece x0 256 j2 i2 z
    · exact row_piece x0 128 j1 i1 z
    · exact row_piece x0 0 j0 i0 z
  · exact View.cover_of_tiledL _ ![1, 1, 128] (by sl_kernel_rfl) y

/-- The four stores of scales leave the block's scales. -/
theorem read_lanes (v : View sig .tc .vmem S512x128 .f32) (f : v.ty.Contents (Elt Ideal)) (x0 : Vec Ideal S1x512x1280 .bf16)
    (i0 i1 i2 i3 w0 w1 w2 w3) (j0 j1 j2 j3)
    (h0 : w0 = k0_pay9 (scaleCol (View.ld x0 (framesAt 0 j0)))) (h1 : w1 = k0_pay9 (scaleCol (View.ld x0 (framesAt 128 j1))))
    (h2 : w2 = k0_pay9 (scaleCol (View.ld x0 (framesAt 256 j2)))) (h3 : w3 = k0_pay9 (scaleCol (View.ld x0 (framesAt 384 j3)))) :
    v.read (Elt Ideal) (v.writes (Elt Ideal) f [⟨lanesAt 384 i3, w3⟩, ⟨lanesAt 256 i2, w2⟩, ⟨lanesAt 128 i1, w1⟩, ⟨lanesAt 0 i0, w0⟩])
      = scaleV x0 := by
  subst h0 h1 h2 h3
  funext y
  refine View.read_writes_apply_of_pieces (v := v) (Val := Elt Ideal) (e := .f32) _ (scaleV x0) _ ?_ y ?_
  · intro p hp z
    simp only [List.mem_cons, List.not_mem_nil, or_false] at hp
    rcases hp with rfl | rfl | rfl | rfl
    · exact lanes_piece x0 384 j3 i3 z
    · exact lanes_piece x0 256 j2 i2 z
    · exact lanes_piece x0 128 j1 i1 z
    · exact lanes_piece x0 0 j0 i0 z
  · exact View.cover_of_tiledL _ ![128, 128] (by sl_kernel_rfl) y

/-- A load of the whole block is the block. -/
theorem ld_full {s : Shape} {e : EltTy} (x : Vec Ideal s e) {off : Fin s.rank → Nat} (inb : ∀ a, off a + s.size a ≤ s.size a) :
    View.ld x (Rect.unit off s.size inb) = x :=
  funext fun z => congrArg x (Rect.emb_unit_full inb z)

end Cert.KernelIdeal.Gen

end
-- ==== Proof.QuantiseRun.lean ====
module

public import proofs.«01_k».proof.Proof.Runs
public import proofs.«01_k».proof.Proof.Chunks
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 4000000 in
/-- The first stage of one batch, from its frames: it ends with the codes and the scales in their blocks, and the rotated
    codes, the scales and the rotated scales in the scratches. -/
theorem quantiseRun (c : Dev nD) (i : grid0.Coords) (arg2 : Memref sig .tc .vmem S1x512x1280 .bf16) (harg2 : arg2.IsWhole) (arg3 : Memref sig .tc .vmem S12x1280x128 .fp8e4m3) (harg3 : arg3.IsWhole) (arg4 : Memref sig .tc .vmem S1x128 .f32) (harg4 : arg4.IsWhole) (arg5 : Memref sig .tc .vmem S1x128 .f32) (harg5 : arg5.IsWhole) (arg6 : Memref sig .tc .vmem S1x6x128 .f32) (harg6 : arg6.IsWhole) (arg7 : Memref sig .tc .vmem S1x6x128 .bf16) (harg7 : arg7.IsWhole) (arg8 : Memref sig .tc .vmem S1x3066x128 .bf16) (harg8 : arg8.IsWhole) (arg9 : Memref sig .tc .vmem S1x6x128 .f32) (harg9 : arg9.IsWhole) (arg10 : Memref sig .tc .vmem S1x512x1280 .fp8e4m3) (harg10 : arg10.IsWhole) (arg11 : Memref sig .tc .vmem S1x1x512 .f32) (harg11 : arg11.IsWhole) (arg12 : Memref sig .tc .vmem S512x1280 .fp8e4m3) (harg12 : arg12.IsWhole) (arg13 : Memref sig .tc .vmem S512x128 .f32) (harg13 : arg13.IsWhole) (arg14 : Memref sig .tc .vmem S512x128 .f32) (harg14 : arg14.IsWhole) (arg15 : Memref sig .tc .vmem S8x128 .f32) (harg15 : arg15.IsWhole)
    (x0 : Vec Ideal S1x512x1280 .bf16) (E : Set ℕ) (K : PUnit → sProp 𝕄) :
    iprop(owns (c : Thread nD τ) arg2 fullShare x0 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ ((owns (c : Thread nD τ) arg2 fullShare x0 ∗ owns (c : Thread nD τ) arg10 fullShare (codesV x0) ∗ owns (c : Thread nD τ) arg11 fullShare (scaleRowV x0) ∗ owns (c : Thread nD τ) arg12 fullShare (rotCodesV x0) ∗ owns (c : Thread nD τ) arg13 fullShare (scaleV x0) ∗ owns (c : Thread nD τ) arg14 fullShare (rotScaleV x0)) -∗ K ⟨⟩))
      ⊢ wp frame (wpE (defs₀ (F := Ideal)) Variants.none c none) E (quantise i arg2 harg2 arg3 harg3 arg4 harg4 arg5 harg5 arg6 harg6 arg7 harg7 arg8 harg8 arg9 harg9 arg10 harg10 arg11 harg11 arg12 harg12 arg13 harg13 arg14 harg14 arg15 harg15) K := by
    unfold quantise
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%d8, %f8, -, H8⟩, ⟨%d9, %f9, -, H9⟩, ⟨%ds0, %fs0, -, HS0⟩, ⟨%ds1, %fs1, -, HS1⟩, ⟨%ds2, %fs2, -, HS2⟩, Hk⟩
    obtain rfl := harg2.eq_unread hf0
    sl_exec
    sl_step
    iapply Hk
    clear hf0
    have h8 : ∀ f8 : arg10.view.ty.Contents (Elt Ideal), arg10.view.read (Elt Ideal) (arg10.view.writes (Elt Ideal) f8 (quantiseRun.sl.H8_4 c arg2 harg2 x0)) = codesV x0 := fun f8 => by
      refine read_codes arg10.view f8 x0 _ _ _ _ _ _ _ _ inb_S1x512x1280_S1x128x1280_0_0_0 inb_S1x512x1280_S1x128x1280_0_128_0 inb_S1x512x1280_S1x128x1280_0_256_0 inb_S1x512x1280_S1x128x1280_0_384_0 ?_ ?_ ?_ ?_
      all_goals
        sl_unfold_words
        dsimp only
        simp only [View.readAt_eq_ld, harg2.read_unread]
      · rfl
      · exact codes_chunk2 _
      · exact codes_chunk3 _
      · exact codes_chunk4 _
    have h13 : ∀ fs1 : arg13.view.ty.Contents (Elt Ideal), arg13.view.read (Elt Ideal) (arg13.view.writes (Elt Ideal) fs1 (quantiseRun.sl.HS1_4 c arg2 harg2 x0)) = scaleV x0 := fun fs1 => by
      refine read_lanes arg13.view fs1 x0 _ _ _ _ _ _ _ _ inb_S1x512x1280_S1x128x1280_0_0_0 inb_S1x512x1280_S1x128x1280_0_128_0 inb_S1x512x1280_S1x128x1280_0_256_0 inb_S1x512x1280_S1x128x1280_0_384_0 ?_ ?_ ?_ ?_
      all_goals
        sl_unfold_words
        dsimp only
        simp only [View.readAt_eq_ld, harg2.read_unread]
      · rfl
      · exact scales_chunk2 _
      · exact scales_chunk3 _
      · exact scales_chunk4 _
    isplitl [H0]; · iexists _; isplitr; · ipureintro; exact (harg2.read_unread x0)
                    · iexact H0
    isplitl [H8]; · iexists _; isplitr; · ipureintro; exact h8 f8
                    · iexact H8
    isplitl [H9]
    · iexists _; isplitr; rotate_left
      · iexact H9
      ipureintro
      refine read_row arg11.view f9 x0 _ _ _ _ _ _ _ _ inb_S1x512x1280_S1x128x1280_0_0_0 inb_S1x512x1280_S1x128x1280_0_128_0 inb_S1x512x1280_S1x128x1280_0_256_0 inb_S1x512x1280_S1x128x1280_0_384_0 ?_ ?_ ?_ ?_
      all_goals
        sl_unfold_words
        dsimp only
        simp only [View.readAt_eq_ld, harg2.read_unread]
      · rfl
      · exact row_chunk2 _
      · exact row_chunk3 _
      · exact row_chunk4 _
    isplitl [HS0]
    · iexists _; isplitr; rotate_left
      · iexact HS0
      ipureintro
      refine (View.read_writes_full arg12.view fs0 _ _ []).trans ?_
      refine Eq.trans ?_ (rotCodes_eq x0)
      sl_unfold_words
      refine congrArg (k0_pay44 (F := Ideal)) ?_
      show arg10.view.readAt (Elt Ideal) _ _ = _
      rw [View.readAt_eq_ld]
      exact (congrArg (fun V => View.ld V _) (h8 _)).trans (ld_full _ _)
    isplitl [HS1]; · iexists _; isplitr; · ipureintro; exact h13 fs1
                     · iexact HS1
    iexists _; isplitr; rotate_left
    · iexact HS2
    ipureintro
    refine (View.read_writes_full arg14.view fs2 _ _ []).trans ?_
    refine Eq.trans ?_ (rotScales_eq x0)
    sl_unfold_words
    refine congrArg (fun V => k0_pay46 (F := Ideal) (k0_pay45 (F := Ideal) V)) ?_
    show arg13.view.readAt (Elt Ideal) _ _ = _
    rw [View.readAt_eq_ld]
    exact (congrArg (fun V => View.ld V _) (h13 _)).trans (ld_full _ _)

end Cert.KernelIdeal.Gen

end
-- ==== Proof.Body.lean ====
/-
  The body of one grid point, the proof data of the pipeline, and the run of the whole program: it terminates, and its arrays
  end at what the grid points wrote back.
-/
module

public import proofs.«01_k».proof.Proof.Products
public import proofs.«01_k».proof.Proof.QuantiseRun
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 1000000 in
/-- The body of a grid point at which a batch begins, from its inputs: it quantises, then multiplies. -/
theorem bodyRunA (c : Dev nD) (i : grid0.Coords) (arg2 : Memref sig .tc .vmem S1x512x1280 .bf16) (harg2 : arg2.IsWhole) (arg3 : Memref sig .tc .vmem S12x1280x128 .fp8e4m3) (harg3 : arg3.IsWhole) (arg4 : Memref sig .tc .vmem S1x128 .f32) (harg4 : arg4.IsWhole) (arg5 : Memref sig .tc .vmem S1x128 .f32) (harg5 : arg5.IsWhole) (arg6 : Memref sig .tc .vmem S1x6x128 .f32) (harg6 : arg6.IsWhole) (arg7 : Memref sig .tc .vmem S1x6x128 .bf16) (harg7 : arg7.IsWhole) (arg8 : Memref sig .tc .vmem S1x3066x128 .bf16) (harg8 : arg8.IsWhole) (arg9 : Memref sig .tc .vmem S1x6x128 .f32) (harg9 : arg9.IsWhole) (arg10 : Memref sig .tc .vmem S1x512x1280 .fp8e4m3) (harg10 : arg10.IsWhole) (arg11 : Memref sig .tc .vmem S1x1x512 .f32) (harg11 : arg11.IsWhole) (arg12 : Memref sig .tc .vmem S512x1280 .fp8e4m3) (harg12 : arg12.IsWhole) (arg13 : Memref sig .tc .vmem S512x128 .f32) (harg13 : arg13.IsWhole) (arg14 : Memref sig .tc .vmem S512x128 .f32) (harg14 : arg14.IsWhole) (arg15 : Memref sig .tc .vmem S8x128 .f32) (harg15 : arg15.IsWhole) (hc : k0_cond1 i = 1#1)
    (x0 : Vec Ideal S1x512x1280 .bf16) (x1 : Vec Ideal S12x1280x128 .fp8e4m3) (x2 : Vec Ideal S1x128 .f32) (x3 : Vec Ideal S1x128 .f32) (x4 : Vec Ideal S1x6x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ ((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (firstV x1 x2 x3 x4 (rotCodesV x0) (rotScaleV x0)) ∗ owns (c : Thread nD τ) arg8 fullShare (restV x1 x2 x3 (codesV x0) (rotCodesV x0) (scaleV x0) (rotScaleV x0)) ∗ owns (c : Thread nD τ) arg9 fullShare (tailV x1 x2 (codesV x0) (scaleV x0)) ∗ owns (c : Thread nD τ) arg10 fullShare (codesV x0) ∗ owns (c : Thread nD τ) arg11 fullShare (scaleRowV x0) ∗ owns (c : Thread nD τ) arg12 fullShare (rotCodesV x0) ∗ owns (c : Thread nD τ) arg13 fullShare (scaleV x0) ∗ owns (c : Thread nD τ) arg14 fullShare (rotScaleV x0) ∗ (∃ d, owns (c : Thread nD τ) arg15 fullShare d)) -∗ K ⟨⟩))
      ⊢ wp frame (wpE (defs₀ (F := Ideal)) Variants.none c none) E (cc0_codec_upsample (F := Ideal) i arg2 harg2 arg3 harg3 arg4 harg4 arg5 harg5 arg6 harg6 arg7 harg7 arg8 harg8 arg9 harg9 arg10 harg10 arg11 harg11 arg12 harg12 arg13 harg13 arg14 harg14 arg15 harg15) K := by
  rw [body_pos (F := Ideal) i arg2 harg2 arg3 harg3 arg4 harg4 arg5 harg5 arg6 harg6 arg7 harg7 arg8 harg8 arg9 harg9 arg10 harg10 arg11 harg11 arg12 harg12 arg13 harg13 arg14 harg14 arg15 harg15 hc, wp_bind]
  iintro ⟨H0, H1, H2, H3, H4, H5, H6, H7, H8, H9, S0, S1, S2, S3, Hk⟩
  iapply (quantiseRun c i arg2 harg2 arg3 harg3 arg4 harg4 arg5 harg5 arg6 harg6 arg7 harg7 arg8 harg8 arg9 harg9 arg10 harg10 arg11 harg11 arg12 harg12 arg13 harg13 arg14 harg14 arg15 harg15 x0 E _)
  isplitl [H0]; · iexact H0
  isplitl [H8]; · iexact H8
  isplitl [H9]; · iexact H9
  isplitl [S0]; · iexact S0
  isplitl [S1]; · iexact S1
  isplitl [S2]; · iexact S2
  iintro ⟨H0, H8, H9, S0, S1, S2⟩
  iapply (productsRun c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 (codesV x0) (scaleRowV x0) (rotCodesV x0) (scaleV x0) (rotScaleV x0) E _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [S0]; · iexact S0
  isplitl [S1]; · iexact S1
  isplitl [S2]; · iexact S2
  isplitl [S3]; · iexact S3
  iexact Hk

set_option maxHeartbeats 1000000 in
/-- The body of a later grid point of a batch, from its inputs and what the first point of the batch left: it multiplies. -/
theorem bodyRunB (c : Dev nD) (i : grid0.Coords) (arg2 : Memref sig .tc .vmem S1x512x1280 .bf16) (harg2 : arg2.IsWhole) (arg3 : Memref sig .tc .vmem S12x1280x128 .fp8e4m3) (harg3 : arg3.IsWhole) (arg4 : Memref sig .tc .vmem S1x128 .f32) (harg4 : arg4.IsWhole) (arg5 : Memref sig .tc .vmem S1x128 .f32) (harg5 : arg5.IsWhole) (arg6 : Memref sig .tc .vmem S1x6x128 .f32) (harg6 : arg6.IsWhole) (arg7 : Memref sig .tc .vmem S1x6x128 .bf16) (harg7 : arg7.IsWhole) (arg8 : Memref sig .tc .vmem S1x3066x128 .bf16) (harg8 : arg8.IsWhole) (arg9 : Memref sig .tc .vmem S1x6x128 .f32) (harg9 : arg9.IsWhole) (arg10 : Memref sig .tc .vmem S1x512x1280 .fp8e4m3) (harg10 : arg10.IsWhole) (arg11 : Memref sig .tc .vmem S1x1x512 .f32) (harg11 : arg11.IsWhole) (arg12 : Memref sig .tc .vmem S512x1280 .fp8e4m3) (harg12 : arg12.IsWhole) (arg13 : Memref sig .tc .vmem S512x128 .f32) (harg13 : arg13.IsWhole) (arg14 : Memref sig .tc .vmem S512x128 .f32) (harg14 : arg14.IsWhole) (arg15 : Memref sig .tc .vmem S8x128 .f32) (harg15 : arg15.IsWhole) (hc : ¬ k0_cond1 i = 1#1)
    (x0 : Vec Ideal S1x512x1280 .bf16) (x1 : Vec Ideal S12x1280x128 .fp8e4m3) (x2 : Vec Ideal S1x128 .f32) (x3 : Vec Ideal S1x128 .f32) (x4 : Vec Ideal S1x6x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare (codesV x0) ∗ owns (c : Thread nD τ) arg11 fullShare (scaleRowV x0) ∗ owns (c : Thread nD τ) arg12 fullShare (rotCodesV x0) ∗ owns (c : Thread nD τ) arg13 fullShare (scaleV x0) ∗ owns (c : Thread nD τ) arg14 fullShare (rotScaleV x0) ∗ (∃ d, owns (c : Thread nD τ) arg15 fullShare d) ∗ ((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (firstV x1 x2 x3 x4 (rotCodesV x0) (rotScaleV x0)) ∗ owns (c : Thread nD τ) arg8 fullShare (restV x1 x2 x3 (codesV x0) (rotCodesV x0) (scaleV x0) (rotScaleV x0)) ∗ owns (c : Thread nD τ) arg9 fullShare (tailV x1 x2 (codesV x0) (scaleV x0)) ∗ owns (c : Thread nD τ) arg10 fullShare (codesV x0) ∗ owns (c : Thread nD τ) arg11 fullShare (scaleRowV x0) ∗ owns (c : Thread nD τ) arg12 fullShare (rotCodesV x0) ∗ owns (c : Thread nD τ) arg13 fullShare (scaleV x0) ∗ owns (c : Thread nD τ) arg14 fullShare (rotScaleV x0) ∗ (∃ d, owns (c : Thread nD τ) arg15 fullShare d)) -∗ K ⟨⟩))
      ⊢ wp frame (wpE (defs₀ (F := Ideal)) Variants.none c none) E (cc0_codec_upsample (F := Ideal) i arg2 harg2 arg3 harg3 arg4 harg4 arg5 harg5 arg6 harg6 arg7 harg7 arg8 harg8 arg9 harg9 arg10 harg10 arg11 harg11 arg12 harg12 arg13 harg13 arg14 harg14 arg15 harg15) K := by
  rw [body_neg (F := Ideal) i arg2 harg2 arg3 harg3 arg4 harg4 arg5 harg5 arg6 harg6 arg7 harg7 arg8 harg8 arg9 harg9 arg10 harg10 arg11 harg11 arg12 harg12 arg13 harg13 arg14 harg14 arg15 harg15 hc]
  exact productsRun c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 (codesV x0) (scaleRowV x0) (rotCodesV x0) (scaleV x0) (rotScaleV x0) E K

/-! ## The proof data -/

variable (m : (ℓ : Loc nD τ sig) → Buf (Elt Ideal) ℓ) (ρ : Dev nD → PrngReg)

/-- What the scratches hold before point `n`: before the first anything; later the rotated codes, the scales and the rotated
    scales of the frames of the point before, and anything in the fourth. -/
def PhiS (c : Dev nD) : (n : ℕ) → n ≤ cfg0.N → sProp 𝕄
  | 0, _ => Pipeline.ΦA spec0 c
  | n + 1, hn => iprop(iprop(owns (c : Thread nD τ) scM0_0 fullShare (rotCodesV (iblk m c 0 ⟨n, hn⟩)) ∗ owns (c : Thread nD τ) scM0_1 fullShare (scaleV (iblk m c 0 ⟨n, hn⟩)) ∗ owns (c : Thread nD τ) scM0_2 fullShare (rotScaleV (iblk m c 0 ⟨n, hn⟩)) ∗ (∃ d, owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (t : Fin cfg0.N) :
    PhiS m c (t.val + 1) t.isLt = iprop(iprop(owns (c : Thread nD τ) scM0_0 fullShare (rotCodesV (iblk m c 0 t)) ∗ owns (c : Thread nD τ) scM0_1 fullShare (scaleV (iblk m c 0 t)) ∗ owns (c : Thread nD τ) scM0_2 fullShare (rotScaleV (iblk m c 0 t)) ∗ (∃ d, owns (c : Thread nD τ) scM0_3 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare (rotCodesV (iblk m c 0 ⟨n - 1, by omega⟩)) ∗ owns (c : Thread nD τ) scM0_1 fullShare (scaleV (iblk m c 0 ⟨n - 1, by omega⟩)) ∗ owns (c : Thread nD τ) scM0_2 fullShare (rotScaleV (iblk m c 0 ⟨n - 1, by omega⟩)) ∗ (∃ d, owns (c : Thread nD τ) scM0_3 fullShare d)) ∗ (∃ r, prngReg c r)) := by
  cases n with
  | zero => exact absurd rfl hz
  | succ n => rfl

/-- The proof data: after the body at point `t` each input's buffer holds its block, and each output's buffer its function of
    the blocks. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => firstV (iblk m c 1 t) (iblk m c 2 t) (iblk m c 3 t) (iblk m c 4 t) (rotCodesV (iblk m c 0 t)) (rotScaleV (iblk m c 0 t))
    | ⟨6, _⟩ => restV (iblk m c 1 t) (iblk m c 2 t) (iblk m c 3 t) (codesV (iblk m c 0 t)) (rotCodesV (iblk m c 0 t)) (scaleV (iblk m c 0 t)) (rotScaleV (iblk m c 0 t))
    | ⟨7, _⟩ => tailV (iblk m c 1 t) (iblk m c 2 t) (codesV (iblk m c 0 t)) (scaleV (iblk m c 0 t))
    | ⟨8, _⟩ => codesV (iblk m c 0 t)
    | ⟨9, _⟩ => scaleRowV (iblk m c 0 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = firstV (iblk m c 1 t) (iblk m c 2 t) (iblk m c 3 t) (iblk m c 4 t) (rotCodesV (iblk m c 0 t)) (rotScaleV (iblk m c 0 t)) := by dsimp only [dats]
theorem after0_6 (c : Dev nD) (t : Fin cfg0.N) : (dats m 0 c).after 6 t = restV (iblk m c 1 t) (iblk m c 2 t) (iblk m c 3 t) (codesV (iblk m c 0 t)) (rotCodesV (iblk m c 0 t)) (scaleV (iblk m c 0 t)) (rotScaleV (iblk m c 0 t)) := by dsimp only [dats]
theorem after0_7 (c : Dev nD) (t : Fin cfg0.N) : (dats m 0 c).after 7 t = tailV (iblk m c 1 t) (iblk m c 2 t) (codesV (iblk m c 0 t)) (scaleV (iblk m c 0 t)) := by dsimp only [dats]
theorem after0_8 (c : Dev nD) (t : Fin cfg0.N) : (dats m 0 c).after 8 t = codesV (iblk m c 0 t) := by dsimp only [dats]
theorem after0_9 (c : Dev nD) (t : Fin cfg0.N) : (dats m 0 c).after 9 t = scaleRowV (iblk m c 0 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## What a batch's later points find -/

/-- Within a batch the frames' block stays the same. -/
theorem iblk0_prev (c : Dev nD) (t : Fin cfg0.N) (h : ¬t.val % 5 = 0) :
    iblk m c 0 t = iblk m c 0 ⟨t.val - 1, Nat.lt_of_le_of_lt (Nat.sub_le _ _) t.isLt⟩ := by
  have hf : (cfg0.win 0).fetch t = false := by
    rw [Bool.eq_false_iff]; exact fun hh => h ((fetch0_0 t).mp hh)
  have h1 := (dats m 0 c).before_of_pos 0 t (by omega) hf (iblk m c 0 t)
  rw [before0_0] at h1
  refine h1.trans ((if_neg ?_).trans ?_)
  · rw [show (cfg0.win 0).flush _ = false from rfl]; exact Bool.false_ne_true
  · unfold Dat.left
    rw [show cfg0.idle 0 (cfg0.grid.coords _) = false from rfl]
    exact after0_0 m c _

theorem idle_pos (t : Fin cfg0.N) (h : t.val % 5 = 0) : (!(k0_cond1 (grid0.coords t) == 1#1)) = false := by
  rw [(hcond0_0 t).mpr h]; rfl

theorem idle_neg (t : Fin cfg0.N) (h : ¬t.val % 5 = 0) : (!(k0_cond1 (grid0.coords t) == 1#1)) = true := by
  have h1 : ¬ k0_cond1 (grid0.coords t) = 1#1 := fun hh => h ((hcond0_0 t).mp hh)
  simp [h1]

/-- A later point of a batch finds window 8's buffer as the batch's first point left it. -/
theorem before0_8 (c : Dev nD) : ∀ (n : ℕ) (t : Fin cfg0.N), t.val = n → ¬t.val % 5 = 0 → ∀ d, (dats m 0 c).before 8 t d = codesV (iblk m c 0 t)
  | 0, t, hn, h, d => absurd (by rw [hn]) h
  | n + 1, t, hn, h, d => by
    have hlt : t.val - 1 < cfg0.N := Nat.lt_of_le_of_lt (Nat.sub_le _ _) t.isLt
    refine ((dats m 0 c).before_of_pos 8 t (by omega) rfl d).trans ((if_neg ?_).trans ?_)
    · rw [flush0_8]; show ¬ (t.val - 1) % 5 = 4; omega
    · rw [iblk0_prev m c t h]
      by_cases h1 : (t.val - 1) % 5 = 0
      · unfold Dat.left
        rw [show cfg0.idle 8 (cfg0.grid.coords ⟨t.val - 1, hlt⟩) = false from idle_pos ⟨t.val - 1, hlt⟩ h1]
        exact after0_8 m c _
      · unfold Dat.left
        rw [show cfg0.idle 8 (cfg0.grid.coords ⟨t.val - 1, hlt⟩) = true from idle_neg ⟨t.val - 1, hlt⟩ h1]
        exact before0_8 c n ⟨t.val - 1, hlt⟩ (by show t.val - 1 = n; omega) h1 d

/-- A later point of a batch hands window 8's buffer back as it found it. -/
theorem leaves0_8 (c : Dev nD) (t : Fin cfg0.N) (h : ¬t.val % 5 = 0) :
    owns (c : Thread nD τ) (ms0_8 t) fullShare (codesV (iblk m c 0 t)) ⊢ ((dats m 0 c).leavesExact 8 t : sProp 𝕄) := by
  have hi : cfg0.idle 8 (cfg0.grid.coords t) = true := idle_neg t h
  cases hf : (cfg0.win 8).flush t
  · rw [(dats m 0 c).leavesExact_idle 8 t hi hf]
    iintro H
    iexists (codesV (iblk m c 0 t))
    rw [before0_8 m c t.val t rfl h]
    iexact H
  · rw [show (dats m 0 c).leavesExact 8 t = owns (c : Thread nD τ) (ms0_8 t) fullShare ((dats m 0 c).after 8 t) from by
      unfold Dat.leavesExact; rw [hi, hf], after0_8]

/-- A later point of a batch finds window 9's buffer as the batch's first point left it. -/
theorem before0_9 (c : Dev nD) : ∀ (n : ℕ) (t : Fin cfg0.N), t.val = n → ¬t.val % 5 = 0 → ∀ d, (dats m 0 c).before 9 t d = scaleRowV (iblk m c 0 t)
  | 0, t, hn, h, d => absurd (by rw [hn]) h
  | n + 1, t, hn, h, d => by
    have hlt : t.val - 1 < cfg0.N := Nat.lt_of_le_of_lt (Nat.sub_le _ _) t.isLt
    refine ((dats m 0 c).before_of_pos 9 t (by omega) rfl d).trans ((if_neg ?_).trans ?_)
    · rw [flush0_9]; show ¬ (t.val - 1) % 5 = 4; omega
    · rw [iblk0_prev m c t h]
      by_cases h1 : (t.val - 1) % 5 = 0
      · unfold Dat.left
        rw [show cfg0.idle 9 (cfg0.grid.coords ⟨t.val - 1, hlt⟩) = false from idle_pos ⟨t.val - 1, hlt⟩ h1]
        exact after0_9 m c _
      · unfold Dat.left
        rw [show cfg0.idle 9 (cfg0.grid.coords ⟨t.val - 1, hlt⟩) = true from idle_neg ⟨t.val - 1, hlt⟩ h1]
        exact before0_9 c n ⟨t.val - 1, hlt⟩ (by show t.val - 1 = n; omega) h1 d

/-- A later point of a batch hands window 9's buffer back as it found it. -/
theorem leaves0_9 (c : Dev nD) (t : Fin cfg0.N) (h : ¬t.val % 5 = 0) :
    owns (c : Thread nD τ) (ms0_9 t) fullShare (scaleRowV (iblk m c 0 t)) ⊢ ((dats m 0 c).leavesExact 9 t : sProp 𝕄) := by
  have hi : cfg0.idle 9 (cfg0.grid.coords t) = true := idle_neg t h
  cases hf : (cfg0.win 9).flush t
  · rw [(dats m 0 c).leavesExact_idle 9 t hi hf]
    iintro H
    iexists (scaleRowV (iblk m c 0 t))
    rw [before0_9 m c t.val t rfl h]
    iexact H
  · rw [show (dats m 0 c).leavesExact 9 t = owns (c : Thread nD τ) (ms0_9 t) fullShare ((dats m 0 c).after 9 t) from by
      unfold Dat.leavesExact; rw [hi, hf], after0_9]

/-! ## The body obligation -/

theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4000000 in
/-- The body at any point: the first of a batch quantises, the later ones find what it left. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  rw [show (dats m 0 c).leavesExact 5 t = owns (c : Thread nD τ) (ms0_5 t) fullShare ((dats m 0 c).after 5 t) from by
      unfold Dat.leavesExact; rw [liveAt0_5 t], after0_5]
  rw [show (dats m 0 c).leavesExact 6 t = owns (c : Thread nD τ) (ms0_6 t) fullShare ((dats m 0 c).after 6 t) from by
      unfold Dat.leavesExact; rw [liveAt0_6 t], after0_6]
  rw [show (dats m 0 c).leavesExact 7 t = owns (c : Thread nD τ) (ms0_7 t) fullShare ((dats m 0 c).after 7 t) from by
      unfold Dat.leavesExact; rw [liveAt0_7 t], after0_7]
  by_cases h0 : t.val % 5 = 0
  · rw [show (dats m 0 c).leavesExact 8 t = owns (c : Thread nD τ) (ms0_8 t) fullShare ((dats m 0 c).after 8 t) from by
      unfold Dat.leavesExact; rw [show cfg0.idle 8 (cfg0.grid.coords t) = false from idle_pos t h0], after0_8]
    rw [show (dats m 0 c).leavesExact 9 t = owns (c : Thread nD τ) (ms0_9 t) fullShare ((dats m 0 c).after 9 t) from by
      unfold Dat.leavesExact; rw [show cfg0.idle 9 (cfg0.grid.coords t) = false from idle_pos t h0], after0_9]
    by_cases hz : t.val = 0
    · rw [PhiS_castSucc m c t, PhiS_zero m c _ _ hz, PhiA0_eq]
      iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (bodyRunA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [H9]; · iexists _; iexact H9
      isplitl [S0]; · iexact S0
      isplitl [S1]; · iexact S1
      isplitl [S2]; · iexact S2
      isplitl [S3]; · iexact S3
      iintro ⟨H0, H1, H2, H3, H4, H5, H6, H7, H8, H9, S0, S1, S2, S3⟩
      isplitl [S0 S1 S2 S3 Hg]
      · isplitl [S0 S1 S2 S3]
        · isplitl [S0]; · iexact S0
          isplitl [S1]; · iexact S1
          isplitl [S2]; · iexact S2
          iexact S3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · rw [PhiS_castSucc m c t, PhiS_pos m c _ _ hz]
      iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (bodyRunA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [H9]; · iexists _; iexact H9
      isplitl [S0]; · iexists _; iexact S0
      isplitl [S1]; · iexists _; iexact S1
      isplitl [S2]; · iexists _; iexact S2
      isplitl [S3]; · iexact S3
      iintro ⟨H0, H1, H2, H3, H4, H5, H6, H7, H8, H9, S0, S1, S2, S3⟩
      isplitl [S0 S1 S2 S3 Hg]
      · isplitl [S0 S1 S2 S3]
        · isplitl [S0]; · iexact S0
          isplitl [S1]; · iexact S1
          isplitl [S2]; · iexact S2
          iexact S3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
  · by_cases hz : t.val = 0
    · exact absurd (by rw [hz]) h0
    · rw [PhiS_castSucc m c t, PhiS_pos m c _ _ hz, ← iblk0_prev m c t h0]
      simp only [before0_8 m c t.val t rfl h0, before0_9 m c t.val t rfl h0]
      iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (bodyRunB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexact H8
      isplitl [H9]; · iexact H9
      isplitl [S0]; · iexact S0
      isplitl [S1]; · iexact S1
      isplitl [S2]; · iexact S2
      isplitl [S3]; · iexact S3
      iintro ⟨H0, H1, H2, H3, H4, H5, H6, H7, H8, H9, S0, S1, S2, S3⟩
      isplitl [S0 S1 S2 S3 Hg]
      · isplitl [S0 S1 S2 S3]
        · isplitl [S0]; · iexact S0
          isplitl [S1]; · iexact S1
          isplitl [S2]; · iexact S2
          iexact S3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iapply (leaves0_8 m c t h0); iexact H8
      iapply (leaves0_9 m c t h0); iexact H9

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 20 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨⟨S0, S1, S2, S3⟩, Hg⟩
  isplitl [S0 S1 S2 S3]
  · isplitl [S0]; · iexists _; iexact S0
    isplitl [S1]; · iexists _; iexact S1
    isplitl [S2]; · iexists _; iexact S2
    iexact S3
  iexact Hg

set_option backward.isDefEq.respectTransparency.types false in
/-- The run: it terminates, every array ends at what the points wrote back, everything else as the region found it, and every
    semaphore counter at zero. -/
theorem run_main_quiescent : θ_run defs (onTc (τ := τ) (main (F := Ideal))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := Ideal))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the arguments end unchanged and every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Gen

end
-- ==== Proof.Exponent.lean ====
/-
  The exponent of a number two ways: the field found by halving over the bit patterns of the powers of two, and one more
  than the floor of the base-two logarithm, the numbers below the least normal one counting as exponent 0. And the two
  powers of two the quantiser makes of it.
-/
module

public import proofs.«01_k».proof.Proof.Quantiser

@[expose] public section

set_option maxRecDepth 16384

noncomputable section

namespace Cert.Exponent

open Idealize.ShloMosaic Cert.KernelIdeal.Gen

/-! ## The bit patterns of the powers of two -/

/-- The number whose pattern is the exponent field `n` over a zero fraction. -/
def fieldVal (n : ℕ) : EReal := if n = 255 then ⊤ else if n = 0 then 0 else (((2 : ℝ) ^ ((n : ℤ) - 127) : ℝ) : EReal)

theorem fieldVal_of {n : ℕ} (h0 : 1 ≤ n) (h1 : n ≤ 254) : fieldVal n = (((2 : ℝ) ^ ((n : ℤ) - 127) : ℝ) : EReal) := by
  rw [fieldVal, if_neg (by omega), if_neg (by omega)]

theorem shli_toNat (w : BitVec 32) (h : w.toNat < 256) :
    (IntOp.shli ArithUnit.vector w 23#32).toNat = w.toNat * 2 ^ 23 := by
  unfold IntOp.shli
  rw [if_pos (by decide)]
  show (w <<< (23#32).toNat).toNat = _
  rw [BitVec.toNat_shiftLeft, Nat.shiftLeft_eq]
  show w.toNat * 2 ^ 23 % 2 ^ 32 = _
  omega

/-- A field shifted into place denotes its power of two. -/
theorem ofBits_shli (w : BitVec 32) (h : w.toNat < 256) :
    Ideal.ofBits .f32 (IntOp.shli ArithUnit.vector w 23#32) = fieldVal w.toNat := by
  show Ideal.ieee 8 23 (IntOp.shli ArithUnit.vector w 23#32) = _
  have t := shli_toNat w h
  generalize IntOp.shli ArithUnit.vector w 23#32 = b at t
  have hs : (b.extractLsb' (8 + 23) 1 == 1#1) = false := by
    rw [beq_eq_false_iff_ne]
    intro e
    have := congrArg BitVec.toNat e
    rw [BitVec.extractLsb'_toNat, t, Nat.shiftRight_eq_div_pow] at this
    change w.toNat * 2 ^ 23 / 2 ^ 31 % 2 ^ 1 = 1 at this
    omega
  have he : (b.extractLsb' 23 8).toNat = w.toNat := by
    rw [BitVec.extractLsb'_toNat, t, Nat.shiftRight_eq_div_pow]
    omega
  have hf : (b.extractLsb' 0 23).toNat = 0 := by
    rw [BitVec.extractLsb'_toNat, t, Nat.shiftRight_eq_div_pow]
    omega
  unfold Ideal.ieee fieldVal
  simp only [hs, he, hf, Bool.false_eq_true, if_false]
  split_ifs with h1 h2 h3 h4 h5
  all_goals first
    | rfl
    | omega
    | skip
  · simp
  · congr 1
    rw [show ((w.toNat : ℤ) - 127 : ℤ) = 23 + ((w.toNat : ℤ) - (2 ^ (8 - 1) - 1) - 23) by norm_num, zpow_add₀ (by norm_num)]
    norm_num

/-! ## The search -/

/-- What the search knows with `k` fields left: the field is at least `n`, and below `n + k`. -/
def Between (v : EReal) (n : BitVec 32) (k : ℕ) : Prop :=
  n.toNat + k ≤ 256 ∧ (n.toNat = 0 ∨ fieldVal n.toNat ≤ v) ∧ (n.toNat + k = 256 ∨ v < fieldVal (n.toNat + k))

theorem between_step {v : EReal} {n w : BitVec 32} (k : ℕ) (hk : 0 < k) (hw : w.toNat = k) (h : Between v n (2 * k)) :
    Between v (searchStep v n w) k := by
  obtain ⟨h1, h2, h3⟩ := h
  have e : (IntOp.addi n w).toNat = n.toNat + k := by
    show (n + w).toNat = _
    rw [BitVec.toNat_add, hw]
    omega
  have e2 : n.toNat + k + k = n.toNat + 2 * k := by omega
  unfold searchStep
  rw [ofBits_shli _ (by omega), e]
  split_ifs with hlt
  · exact ⟨by omega, h2, .inr hlt⟩
  · exact ⟨by omega, .inr (by rw [e]; exact not_lt.mp hlt), by rw [e, e2]; exact h3⟩

/-- The field found: the greatest whose power of two is at most `v`, or 0. -/
theorem searchField_between (v : EReal) : Between v (searchField v) 1 :=
  between_step 1 (by decide) rfl <| between_step 2 (by decide) rfl <| between_step 4 (by decide) rfl <|
    between_step 8 (by decide) rfl <| between_step 16 (by decide) rfl <| between_step 32 (by decide) rfl <|
    between_step 64 (by decide) rfl <| between_step 128 (by decide) rfl ⟨by decide, .inl rfl, .inl rfl⟩

/-! ## The logarithm -/

/-- The exponent by the logarithm. -/
def logExp (v : EReal) : EReal :=
  if v < Ideal.ofBits .f32 0x00800000#32 then Ideal.ofBits .f32 0x00000000#32
  else Ideal.liftRound Int.floor (Ideal.div (Ideal.log v) (Ideal.log (Ideal.ofBits .f32 0x40000000#32)))
    + Ideal.ofBits .f32 0x3F800000#32

theorem ofBits_least : Ideal.ofBits .f32 0x00800000#32 = fieldVal 1 := ofBits_shli 1#32 (by decide)

theorem ofBits_two : Ideal.ofBits .f32 0x40000000#32 = ((2 : ℝ) : EReal) := by
  refine (ofBits_shli 128#32 (by decide)).trans ?_
  show fieldVal 128 = _
  rw [fieldVal_of (by decide) (by decide)]
  norm_num

theorem ofBits_one : Ideal.ofBits .f32 0x3F800000#32 = ((1 : ℝ) : EReal) := by
  refine (ofBits_shli 127#32 (by decide)).trans ?_
  show fieldVal 127 = _
  rw [fieldVal_of (by decide) (by decide)]
  norm_num

theorem log_two : Ideal.log (Ideal.ofBits .f32 0x40000000#32) = ((Real.log 2 : ℝ) : EReal) := by
  rw [ofBits_two, Ideal.log_coe, if_neg (by norm_num)]

/-- Between two powers of two the floor of the base-two logarithm is the lower exponent. -/
theorem floor_log {r : ℝ} {e : ℤ} (h0 : (2 : ℝ) ^ e ≤ r) (h1 : r < (2 : ℝ) ^ (e + 1)) : ⌊Real.log r * (Real.log 2)⁻¹⌋ = e := by
  have hr : 0 < r := lt_of_lt_of_le (by positivity) h0
  have h2 : 0 < Real.log 2 := Real.log_pos (by norm_num)
  rw [Int.floor_eq_iff, ← div_eq_mul_inv]
  constructor
  · rw [le_div_iff₀ h2, ← Real.log_zpow]
    exact Real.log_le_log (by positivity) h0
  · rw [div_lt_iff₀ h2, show ((e : ℝ) + 1) = ((e + 1 : ℤ) : ℝ) by push_cast; ring, ← Real.log_zpow]
    exact Real.log_lt_log hr h1

/-- The two exponents agree: below 2 to the 125, both are one integer `e`, whose fields `127 + e` and `127 − e` are normal. -/
theorem logExp_eq {v : EReal} (hv : v < fieldVal 252) :
    ∃ e : ℤ, logExp v = ((e : ℝ) : EReal) ∧ ((IntOp.addi 127#32 (frexpExp v)).toNat : ℤ) = 127 + e
      ∧ ((IntOp.subi 127#32 (frexpExp v)).toNat : ℤ) = 127 - e ∧ -126 ≤ e ∧ e ≤ 126 := by
  obtain ⟨h1, h2, h3⟩ := searchField_between v
  unfold frexpExp logExp
  generalize searchField v = n at h1 h2 h3
  rw [ofBits_least]
  by_cases hn : n.toNat = 0
  · have en : n = 0#32 := BitVec.eq_of_toNat_eq hn
    subst en
    have hlt : v < fieldVal 1 := h3.resolve_left (by decide)
    refine ⟨0, ?_, rfl, rfl, by decide, by decide⟩
    rw [if_pos hlt]
    simp
  · have hge : fieldVal n.toNat ≤ v := h2.resolve_left hn
    have hn2 : n.toNat ≤ 251 := by
      by_contra hc
      have hle : fieldVal 252 ≤ fieldVal n.toNat := by
        rcases (by omega : n.toNat = 255 ∨ n.toNat ≤ 254) with h | h
        · rw [h]; exact le_top
        · rw [fieldVal_of (by decide) (by decide), fieldVal_of (by omega) h, EReal.coe_le_coe_iff]
          exact zpow_le_zpow_right₀ (by norm_num) (by omega)
      exact absurd hv (not_lt.mpr (hle.trans hge))
    have hlt : v < fieldVal (n.toNat + 1) := h3.resolve_left (by omega)
    rw [fieldVal_of (by omega) (by omega)] at hge hlt
    obtain ⟨r, rfl⟩ : ∃ r : ℝ, v = r := by
      induction v with
      | bot => exact absurd hge (not_le.mpr (EReal.bot_lt_coe _))
      | top => exact absurd hlt not_top_lt
      | coe r => exact ⟨r, rfl⟩
    rw [EReal.coe_le_coe_iff] at hge
    rw [EReal.coe_lt_coe_iff] at hlt
    have hr : 0 < r := lt_of_lt_of_le (by positivity) hge
    have hc : IntOp.cmpi CmpIPredicate.eq n 0#32 = 0#1 := by
      unfold IntOp.cmpi
      have : n ≠ 0#32 := fun e => hn (by rw [e]; rfl)
      show BitVec.ofBool (n == 0#32) = 0#1
      rw [beq_eq_false_iff_ne.mpr this]
      rfl
    have hsel : Scalar.select (IntOp.cmpi CmpIPredicate.eq n 0#32) 0#32 (IntOp.subi n 126#32) = n - 126#32 := by
      rw [hc]; rfl
    rw [hsel]
    have a1 : (IntOp.addi 127#32 (n - 126#32)).toNat = n.toNat + 1 := by
      show (127#32 + (n - 126#32)).toNat = _
      rw [BitVec.toNat_add, BitVec.toNat_sub]
      show (127 + (2 ^ 32 - 126 + n.toNat) % 2 ^ 32) % 2 ^ 32 = _
      omega
    have a2 : (IntOp.subi 127#32 (n - 126#32)).toNat = 253 - n.toNat := by
      show (127#32 - (n - 126#32)).toNat = _
      rw [BitVec.toNat_sub, BitVec.toNat_sub]
      show (2 ^ 32 - (2 ^ 32 - 126 + n.toNat) % 2 ^ 32 + 127) % 2 ^ 32 = _
      omega
    refine ⟨(n.toNat : ℤ) - 126, ?_, ?_, ?_, ?_, ?_⟩
    · rw [if_neg, log_two, Ideal.log_coe, if_neg (not_le.mpr hr), Ideal.div, if_neg, ← EReal.coe_inv, ← EReal.coe_mul]
      · show ((⌊Real.log r * (Real.log 2)⁻¹⌋ : ℝ) : EReal) + _ = _
        rw [floor_log hge (by convert hlt using 2; push_cast; ring), ofBits_one,
          ← EReal.coe_add]
        congr 1
        push_cast
        ring
      · have h2 : Real.log 2 ≠ 0 := (Real.log_pos (by norm_num)).ne'
        exact_mod_cast h2
      · rw [not_lt, fieldVal_of (by decide) (by decide), EReal.coe_le_coe_iff]
        exact le_trans (zpow_le_zpow_right₀ (by norm_num) (by omega)) hge
    · rw [a1]; push_cast; ring
    · rw [a2]; omega
    · omega
    · omega

/-- `e` to the integer times the logarithm of two is two to the integer. -/
theorem exp_mul_log (e : ℤ) : Ideal.exp (((e : ℝ) : EReal) * Ideal.log (Ideal.ofBits .f32 0x40000000#32))
    = (((2 : ℝ) ^ e : ℝ) : EReal) := by
  rw [log_two, ← EReal.coe_mul, Ideal.exp_coe, mul_comm, ← Real.rpow_def_of_pos (by norm_num), Real.rpow_intCast]

/-- The scale: two to the exponent. -/
theorem scale_eq {v : EReal} (hv : v < fieldVal 252) :
    Ideal.exp (logExp v * Ideal.log (Ideal.ofBits .f32 0x40000000#32))
      = Ideal.ofBits .f32 (IntOp.shli ArithUnit.vector (IntOp.addi 127#32 (frexpExp v)) 23#32) := by
  obtain ⟨e, h1, h2, h3, h4, h5⟩ := logExp_eq hv
  rw [h1, exp_mul_log, ofBits_shli _ (by omega), fieldVal_of (by omega) (by omega), h2]
  congr 2
  ring

/-- The factor of the codes: two to minus the exponent. -/
theorem factor_eq {v : EReal} (hv : v < fieldVal 252) :
    Ideal.exp ((Ideal.ofBits .f32 0x00000000#32 - logExp v) * Ideal.log (Ideal.ofBits .f32 0x40000000#32))
      = Ideal.ofBits .f32 (IntOp.shli ArithUnit.vector (IntOp.subi 127#32 (frexpExp v)) 23#32) := by
  obtain ⟨e, h1, h2, h3, h4, h5⟩ := logExp_eq hv
  rw [h1, show Ideal.ofBits .f32 0x00000000#32 - ((e : ℝ) : EReal) = (((-e : ℤ) : ℝ) : EReal) by simp,
    exp_mul_log, ofBits_shli _ (by omega), fieldVal_of (by omega) (by omega), h3]
  congr 2
  ring

end Cert.Exponent

end
-- ==== Proof.Arrays.lean ====
/-
  What the kernel's five result arrays hold after the run, as functions of its argument arrays.
-/
module

public import proofs.«01_k».proof.Proof.Body
public import Idealize.ShloMosaic.Lib.Pipeline.ValueKit
public import Idealize.ShloMosaic.Lib.Pointwise

@[expose] public section

set_option maxRecDepth 16384

noncomputable section

namespace Cert.KernelIdeal.Gen

open Idealize.ShloMosaic Idealize.ShloMosaic.TcCoe
open Idealize.SL.Sem
open Idealize.ShloMosaic.Pipeline (Dat)

/-! ## The results, as functions of the arguments -/

/-- Frame `i` of batch `b`. -/
def frameAt (a0 : Vec Ideal S4x512x1280 .bf16) (b : Fin 4) (i : Fin 512) (k : Fin 1280) : EReal := a0 (ix3 b i k)

/-- The dequantised product of a frame with one tap at one output channel: the codes against the tap, times the frame's scale. -/
def tapProd (a0 : Vec Ideal S4x512x1280 .bf16) (a1 : Vec Ideal S12x1280x640 .fp8e4m3) (b : Fin 4) (i : Fin 512) (tap : Fin 12)
    (o : Fin 640) : EReal :=
  (∑ k : Fin 1280, frameCode (frameAt a0 b i) k * a1 (ix3 tap k o)) * frameScale (frameAt a0 b i)

/-- The first six samples. -/
def firstA (a0 : Vec Ideal S4x512x1280 .bf16) (a1 : Vec Ideal S12x1280x640 .fp8e4m3) (a2 a3 : Vec Ideal S640 .f32)
    (a4 : Vec Ideal S4x6x640 .f32) : Vec Ideal S4x6x640 .bf16 :=
  fun y => (tapProd a0 a1 (y 0) 0 ⟨(y 1).val, by have := (y 1).isLt; change _ < 6 at this; omega⟩ (y 2) * a2 (ix1 (y 2))
    + a4 (ix3 (y 0) (y 1) (y 2))) + a3 (ix1 (y 2))

/-- The samples after the first six: sample `6·i + h` adds tap `h` of frame `i + 1` and tap `6 + h` of frame `i`. -/
def restA (a0 : Vec Ideal S4x512x1280 .bf16) (a1 : Vec Ideal S12x1280x640 .fp8e4m3) (a2 a3 : Vec Ideal S640 .f32) :
    Vec Ideal S4x3066x640 .bf16 :=
  fun y => (tapProd a0 a1 (y 0) ⟨(y 1).val / 6 + 1, by have := (y 1).isLt; change _ < 3066 at this; omega⟩
        ⟨(y 1).val % 6, by omega⟩ (y 2)
      + tapProd a0 a1 (y 0) ⟨(y 1).val / 6, by have := (y 1).isLt; change _ < 3066 at this; omega⟩
        ⟨6 + (y 1).val % 6, by omega⟩ (y 2)) * a2 (ix1 (y 2)) + a3 (ix1 (y 2))

/-- The samples carried on: taps `6 … 11` of the last frame. -/
def tailA (a0 : Vec Ideal S4x512x1280 .bf16) (a1 : Vec Ideal S12x1280x640 .fp8e4m3) (a2 : Vec Ideal S640 .f32) :
    Vec Ideal S4x6x640 .f32 :=
  fun y => tapProd a0 a1 (y 0) 511 ⟨6 + (y 1).val, by have := (y 1).isLt; change _ < 6 at this; omega⟩ (y 2) * a2 (ix1 (y 2))

/-- The codes. -/
def codesA (a0 : Vec Ideal S4x512x1280 .bf16) : Vec Ideal S4x512x1280 .fp8e4m3 :=
  fun y => frameCode (frameAt a0 (y 0) (y 1)) (y 2)

/-- The scales. -/
def scalesA (a0 : Vec Ideal S4x512x1280 .bf16) : Vec Ideal S4x1x512 .f32 := fun y => frameScale (frameAt a0 (y 0) (y 2))

/-! ## The blocks, read off the arguments -/

variable (m : (ℓ : Loc nD τ sig) → Buf (Elt Ideal) ℓ)

/-- Point `t` is batch `t / 5`, channel block `t % 5`. -/
theorem coords_eq : ∀ t : Fin cfg0.N, (grid0.coords t 0).val = t.val / 5 ∧ (grid0.coords t 1).val = t.val % 5 :=
  (by decide +kernel : ∀ t : Fin grid0.N, _)

theorem index_eq : ∀ t : Fin cfg0.N, win0_0.index t = ![t.val / 5, 0, 0] ∧ win0_1.index t = ![0, 0, t.val % 5]
    ∧ win0_2.index t = ![0, t.val % 5] ∧ win0_3.index t = ![0, t.val % 5] ∧ win0_4.index t = ![t.val / 5, 0, t.val % 5]
    ∧ win0_5.index t = ![t.val / 5, 0, t.val % 5] ∧ win0_6.index t = ![t.val / 5, 0, t.val % 5]
    ∧ win0_7.index t = ![t.val / 5, 0, t.val % 5] ∧ win0_8.index t = ![t.val / 5, 0, 0] ∧ win0_9.index t = ![t.val / 5, 0, 0] :=
  (by decide +kernel : ∀ t : Fin grid0.N, _)

/-- The batch of a point. -/
def batchOf (t : Fin cfg0.N) : Fin 4 := ⟨t.val / 5, by have := t.isLt; have h : cfg0.N = 20 := N_0; omega⟩

/-- The channel, among the 640, of lane `c` at a point. -/
def chanOf (t : Fin cfg0.N) (c : Fin 128) : Fin 640 := ⟨t.val % 5 * 128 + c.val, by omega⟩

theorem iblk0_apply (c : Dev nD) (t : Fin cfg0.N) (i : Fin 512) (k : Fin 1280) :
    iblk m c 0 t (ix3 0 i k) = m ((c : Thread nD τ).loc main_arg0) (ix3 (batchOf t) i k) := by
  rw [← V_main_arg0 m c]
  blk_ext [iblk, batchOf, index_eq t]

theorem iblk1_apply (c : Dev nD) (t : Fin cfg0.N) (p : Fin 12) (k : Fin 1280) (l : Fin 128) :
    iblk m c 1 t (ix3 p k l) = m ((c : Thread nD τ).loc main_arg1) (ix3 p k (chanOf t l)) := by
  rw [← V_main_arg1 m c]
  blk_ext [iblk, chanOf, index_eq t]

theorem iblk4_apply (c : Dev nD) (t : Fin cfg0.N) (h : Fin 6) (l : Fin 128) :
    iblk m c 4 t (ix3 0 h l) = m ((c : Thread nD τ).loc main_arg4) (ix3 (batchOf t) h (chanOf t l)) := by
  rw [← V_main_arg4 m c]
  blk_ext [iblk, batchOf, chanOf, index_eq t]

theorem iblk2_apply (c : Dev nD) (t : Fin cfg0.N) (l : Fin 128) :
    iblk m c 2 t (ix2 0 l) = m ((c : Thread nD τ).loc main_arg2) (ix1 (chanOf t l)) := by
  unfold iblk
  blk_simp
  entry_read
  have e : ((View.whole main_v0).slice (win0_2.rect t)).emb (ix2 0 l) = (ix2 0 (chanOf t l) : S1x640.Idx) := by
    blk_ext [chanOf, index_eq t]
  rw [e]
  show shapeCast S1x640 _ _ (ix2 0 (chanOf t l)) = _
  pointwise

theorem iblk3_apply (c : Dev nD) (t : Fin cfg0.N) (l : Fin 128) :
    iblk m c 3 t (ix2 0 l) = m ((c : Thread nD τ).loc main_arg3) (ix1 (chanOf t l)) := by
  unfold iblk
  blk_simp
  entry_read
  have e : ((View.whole main_v1).slice (win0_3.rect t)).emb (ix2 0 l) = (ix2 0 (chanOf t l) : S1x640.Idx) := by
    blk_ext [chanOf, index_eq t]
  rw [e]
  show shapeCast S1x640 _ _ (ix2 0 (chanOf t l)) = _
  pointwise

/-- The frames of a point's block are its batch's. -/
theorem frameOf_iblk (c : Dev nD) (t : Fin cfg0.N) (i : Fin 512) :
    frameOf (iblk m c 0 t) i = frameAt (m ((c : Thread nD τ).loc main_arg0)) (batchOf t) i :=
  funext fun k => iblk0_apply m c t i k

/-! ## The blocks written back -/

theorem tapDot_iblk (c : Dev nD) (t : Fin cfg0.N) (q : Fin 1280 → EReal) (tap : Fin 12) (l : Fin 128) :
    tapDot q (iblk m c 1 t) tap l = ∑ k : Fin 1280, q k * m ((c : Thread nD τ).loc main_arg1) (ix3 tap k (chanOf t l)) :=
  Finset.sum_congr rfl fun k _ => by rw [iblk1_apply]

theorem first_block (c : Dev nD) (t : Fin cfg0.N) (h : Fin 6) (l : Fin 128) :
    firstV (iblk m c 1 t) (iblk m c 2 t) (iblk m c 3 t) (iblk m c 4 t) (rotCodesV (iblk m c 0 t)) (rotScaleV (iblk m c 0 t)) (ix3 0 h l)
      = firstA (m ((c : Thread nD τ).loc main_arg0)) (m ((c : Thread nD τ).loc main_arg1)) (m ((c : Thread nD τ).loc main_arg2))
          (m ((c : Thread nD τ).loc main_arg3)) (m ((c : Thread nD τ).loc main_arg4)) (ix3 (batchOf t) h (chanOf t l)) := by
  show (tapDot (fun k => frameCode (frameOf (iblk m c 0 t) (ahead 511)) k) (iblk m c 1 t) ⟨h.val, _⟩ l
      * frameScale (frameOf (iblk m c 0 t) (ahead 511)) * iblk m c 2 t (ix2 0 l) + iblk m c 4 t (ix3 0 h l)) + iblk m c 3 t (ix2 0 l) = _
  rw [tapDot_iblk, iblk2_apply, iblk3_apply, iblk4_apply, frameOf_iblk, show ahead 511 = 0 from by decide]
  rfl

theorem rest_block (c : Dev nD) (t : Fin cfg0.N) (s : Fin 3066) (l : Fin 128) :
    restV (iblk m c 1 t) (iblk m c 2 t) (iblk m c 3 t) (codesV (iblk m c 0 t)) (rotCodesV (iblk m c 0 t)) (scaleV (iblk m c 0 t))
        (rotScaleV (iblk m c 0 t)) (ix3 0 s l)
      = restA (m ((c : Thread nD τ).loc main_arg0)) (m ((c : Thread nD τ).loc main_arg1)) (m ((c : Thread nD τ).loc main_arg2))
          (m ((c : Thread nD τ).loc main_arg3)) (ix3 (batchOf t) s (chanOf t l)) := by
  have hs := s.isLt
  show (tapDot (fun k => frameCode (frameOf (iblk m c 0 t) (ahead ⟨s.val / 6, by omega⟩)) k) (iblk m c 1 t) ⟨s.val % 6, _⟩ l
        * frameScale (frameOf (iblk m c 0 t) (ahead ⟨s.val / 6, by omega⟩))
      + tapDot (fun k => frameCode (frameOf (iblk m c 0 t) ⟨s.val / 6, by omega⟩) k) (iblk m c 1 t) ⟨6 + s.val % 6, _⟩ l
        * frameScale (frameOf (iblk m c 0 t) ⟨s.val / 6, by omega⟩)) * iblk m c 2 t (ix2 0 l) + iblk m c 3 t (ix2 0 l) = _
  rw [tapDot_iblk, tapDot_iblk, iblk2_apply, iblk3_apply, frameOf_iblk, frameOf_iblk,
    show ahead ⟨s.val / 6, by omega⟩ = ⟨s.val / 6 + 1, by omega⟩ from Fin.ext (by show (s.val / 6 + 1) % 512 = s.val / 6 + 1; omega)]
  rfl

theorem tail_block (c : Dev nD) (t : Fin cfg0.N) (h : Fin 6) (l : Fin 128) :
    tailV (iblk m c 1 t) (iblk m c 2 t) (codesV (iblk m c 0 t)) (scaleV (iblk m c 0 t)) (ix3 0 h l)
      = tailA (m ((c : Thread nD τ).loc main_arg0)) (m ((c : Thread nD τ).loc main_arg1)) (m ((c : Thread nD τ).loc main_arg2))
          (ix3 (batchOf t) h (chanOf t l)) := by
  show tapDot (fun k => frameCode (frameOf (iblk m c 0 t) 511) k) (iblk m c 1 t) ⟨6 + h.val, _⟩ l
      * frameScale (frameOf (iblk m c 0 t) 511) * iblk m c 2 t (ix2 0 l) = _
  rw [tapDot_iblk, iblk2_apply, frameOf_iblk]
  rfl

theorem codes_block (c : Dev nD) (t : Fin cfg0.N) (i : Fin 512) (k : Fin 1280) :
    codesV (iblk m c 0 t) (ix3 0 i k) = codesA (m ((c : Thread nD τ).loc main_arg0)) (ix3 (batchOf t) i k) := by
  show frameCode (frameOf (iblk m c 0 t) i) k = _
  rw [frameOf_iblk]
  rfl

theorem scales_block (c : Dev nD) (t : Fin cfg0.N) (i : Fin 512) :
    scaleRowV (iblk m c 0 t) (ix3 0 0 i) = scalesA (m ((c : Thread nD τ).loc main_arg0)) (ix3 (batchOf t) 0 i) := by
  show frameScale (frameOf (iblk m c 0 t) i) = _
  rw [frameOf_iblk]
  rfl

/-! ## The arrays after the run -/

/-- The array of result 1 ends holding the first samples. -/
theorem final5 (c : Dev nD) : (dats m 0 c).arrAt 5 cfg0.N = firstA (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  revert y
  show ∀ y : S1x6x128.Idx, _
  intro y
  idx_vars y
  obtain rfl : y0 = 0 := Subsingleton.elim _ _
  have e : ((cfg0.win 5).blk t).view.emb (ix3 0 y1 y2) = (ix3 (batchOf t) y1 (chanOf t y2) : S4x6x640.Idx) := by
    blk_ext [batchOf, chanOf, index_eq t]
  exact (first_block m c t y1 y2).trans (congrArg (firstA (m ((c : Thread nD τ).loc main_arg0)) (m ((c : Thread nD τ).loc main_arg1)) (m ((c : Thread nD τ).loc main_arg2)) (m ((c : Thread nD τ).loc main_arg3)) (m ((c : Thread nD τ).loc main_arg4))) e.symm)

/-- The array of result 2 ends holding the other samples. -/
theorem final6 (c : Dev nD) : (dats m 0 c).arrAt 6 cfg0.N = restA (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  revert y
  show ∀ y : S1x3066x128.Idx, _
  intro y
  idx_vars y
  obtain rfl : y0 = 0 := Subsingleton.elim _ _
  have e : ((cfg0.win 6).blk t).view.emb (ix3 0 y1 y2) = (ix3 (batchOf t) y1 (chanOf t y2) : S4x3066x640.Idx) := by
    blk_ext [batchOf, chanOf, index_eq t]
  exact (rest_block m c t y1 y2).trans (congrArg (restA (m ((c : Thread nD τ).loc main_arg0)) (m ((c : Thread nD τ).loc main_arg1)) (m ((c : Thread nD τ).loc main_arg2)) (m ((c : Thread nD τ).loc main_arg3))) e.symm)

/-- The array of result 3 ends holding the samples carried on. -/
theorem final7 (c : Dev nD) : (dats m 0 c).arrAt 7 cfg0.N = tailA (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7]
  revert y
  show ∀ y : S1x6x128.Idx, _
  intro y
  idx_vars y
  obtain rfl : y0 = 0 := Subsingleton.elim _ _
  have e : ((cfg0.win 7).blk t).view.emb (ix3 0 y1 y2) = (ix3 (batchOf t) y1 (chanOf t y2) : S4x6x640.Idx) := by
    blk_ext [batchOf, chanOf, index_eq t]
  exact (tail_block m c t y1 y2).trans (congrArg (tailA (m ((c : Thread nD τ).loc main_arg0)) (m ((c : Thread nD τ).loc main_arg1)) (m ((c : Thread nD τ).loc main_arg2))) e.symm)

/-- The array of result 4 ends holding the codes. -/
theorem final8 (c : Dev nD) : (dats m 0 c).arrAt 8 cfg0.N = codesA (m ((c : Thread nD τ).loc main_arg0)) := by
  refine (dats m 0 c).arrAt_eq_of_covers 8 _ (by decide +kernel) fun t hf y => ?_
  blk_simp
  rw [after0_8]
  revert y
  show ∀ y : S1x512x1280.Idx, _
  intro y
  idx_vars y
  obtain rfl : y0 = 0 := Subsingleton.elim _ _
  have e : ((cfg0.win 8).blk t).view.emb (ix3 0 y1 y2) = (ix3 (batchOf t) y1 y2 : S4x512x1280.Idx) := by
    blk_ext [batchOf, chanOf, index_eq t]
  exact (codes_block m c t y1 y2).trans (congrArg (codesA (m ((c : Thread nD τ).loc main_arg0))) e.symm)

/-- The array of result 5 ends holding the scales. -/
theorem final9 (c : Dev nD) : (dats m 0 c).arrAt 9 cfg0.N = scalesA (m ((c : Thread nD τ).loc main_arg0)) := by
  refine (dats m 0 c).arrAt_eq_of_covers 9 _ (by decide +kernel) fun t hf y => ?_
  blk_simp
  rw [after0_9]
  revert y
  show ∀ y : S1x1x512.Idx, _
  intro y
  idx_vars y
  obtain rfl : y0 = 0 := Subsingleton.elim _ _
  obtain rfl : y1 = 0 := Subsingleton.elim _ _
  have e : ((cfg0.win 9).blk t).view.emb (ix3 0 0 y2) = (ix3 (batchOf t) 0 y2 : S4x1x512.Idx) := by
    blk_ext [batchOf, chanOf, index_eq t]
  exact (scales_block m c t y2).trans (congrArg (scalesA (m ((c : Thread nD τ).loc main_arg0))) e.symm)

end Cert.KernelIdeal.Gen

end
-- ==== Proof.RefQuantiser.lean ====
/-
  The reference's quantiser at one frame, and that it is the kernel's on frames of finite numbers.
-/
module

public import proofs.«01_k».proof.Proof.Exponent
public import proofs.«01_k».proof.Proof.Arrays
public import proofs.«01_k».proof.Proof.Gen.ReferenceIdeal.Value
public import Idealize.ShloMosaic.Lib.Pointwise

@[expose] public section

set_option maxRecDepth 16384

noncomputable section

namespace Cert.RefRead

open Idealize.ShloMosaic Cert.Exponent
open Cert.KernelIdeal.Gen (frameMax frameExp frameScale frameCode frameAt)

/-- The frame's largest magnitude over 448, whose exponent the quantiser takes. -/
def ratio (x : Fin 1280 → EReal) : EReal := frameMax x * Ideal.ofBits .f32 0x3B124925#32

/-- The reference's scale of a frame. -/
def refScale (x : Fin 1280 → EReal) : EReal := Ideal.exp (logExp (ratio x) * Ideal.log (Ideal.ofBits .f32 0x40000000#32))

/-- The reference's code of an element of a frame. -/
def refCode (x : Fin 1280 → EReal) (k : Fin 1280) : EReal :=
  min (Ideal.ofBits .f32 0x43E00000#32) (max (Ideal.ofBits .f32 0xC3E00000#32)
    (x k * Ideal.exp ((Ideal.ofBits .f32 0x00000000#32 - logExp (ratio x)) * Ideal.log (Ideal.ofBits .f32 0x40000000#32))))

/-- An element is at most the largest finite number of its format in magnitude. -/
def Bounded (x : Fin 1280 → EReal) : Prop :=
  ∀ k, max (x k) (-x k) ≤ Ideal.ofBits .f32 0x7F7F0000#32

theorem frameMax_eq (x : Fin 1280 → EReal) :
    Finset.fold max (Ideal.ofBits .f32 0xFF800000#32) (fun k => max (x k) (-x k)) Finset.univ = frameMax x := by
  have e : Ideal.ofBits .f32 0xFF800000#32 = Ideal.ofBits .bf16 0xFF80#16 := by simp [Ideal.ofBits, Ideal.ieee]
  rw [e]
  rfl

/-- A bounded frame's ratio is far below the largest powers of two. -/
theorem ratio_lt {x : Fin 1280 → EReal} (h : Bounded x) : ratio x < fieldVal 252 := by
  have hB : Ideal.ofBits .f32 0x7F7F0000#32 = (((2 : ℝ) ^ 7 * 255 * 2 ^ 113 : ℝ) : EReal) := by
    simp [Ideal.ofBits, Ideal.ieee, -EReal.coe_mul]
    norm_num
  have hc : Ideal.ofBits .f32 0x3B124925#32 = ((9586981 * 2 ^ (-32 : ℤ) : ℝ) : EReal) := by
    simp [Ideal.ofBits, Ideal.ieee, -EReal.coe_mul]
  have hm : frameMax x ≤ Ideal.ofBits .f32 0x7F7F0000#32 := by
    unfold frameMax
    rw [Finset.fold_max_le]
    refine ⟨?_, fun k _ => h k⟩
    simp [Ideal.ofBits, Ideal.ieee]
  unfold ratio
  refine lt_of_le_of_lt (mul_le_mul_of_nonneg_right hm ?_) ?_
  · rw [hc]
    exact_mod_cast (by positivity)
  · rw [hB, hc, ← EReal.coe_mul, fieldVal_of (by decide) (by decide), EReal.coe_lt_coe_iff]
    norm_num

theorem refScale_eq {x : Fin 1280 → EReal} (h : Bounded x) : refScale x = frameScale x := scale_eq (ratio_lt h)

theorem refCode_eq {x : Fin 1280 → EReal} (h : Bounded x) (k : Fin 1280) : refCode x k = frameCode x k := by
  unfold refCode
  rw [factor_eq (ratio_lt h)]
  rfl

section Read

open Cert.ReferenceIdeal Cert.ReferenceIdeal.Gen

/-- The largest magnitudes, frame by frame. -/
def maxV (a0 : Vec Ideal S4x512x1280 .bf16) : FVec Ideal S4x512 .f32 :=
  multiReduction .maximumf [2] S4x512 (absf (k0_pay4 a0)) 0xFF800000#32 reduces_S4x512x1280_S4x512 (.inl rfl) rfl

theorem maxV_apply (a0 : Vec Ideal S4x512x1280 .bf16) (b : Fin 4) (i : Fin 512) :
    maxV a0 (ix2 b i) = frameMax (frameAt a0 b i) := by
  have e : frameMax (frameAt a0 b i) = Finset.fold max (Ideal.ofBits .f32 0xFF800000#32)
      (fun k => FloatOps.absf (F := Ideal) (φ := .f32) (a0 (ix3 b i k))) Finset.univ := (frameMax_eq _).symm
  rw [e]
  unfold maxV k0_pay4
  pointwise
  try rfl

/-- The exponents of given ratios, as the reference prints them. -/
def expoV (v : FVec Ideal S4x512 .f32) : FVec Ideal S4x512 .f32 :=
  select (cmpf .olt v (broadcast S4x512 (Scalar.ofBits .f32 0x00800000#32))) (broadcast S4x512 (Scalar.ofBits .f32 0x00000000#32))
    (addf (floor (divf (log v) k0_pay5)) (broadcast S4x512 (Scalar.ofBits .f32 0x3F800000#32)))

theorem expoV_apply (v : FVec Ideal S4x512 .f32) (b : Fin 4) (i : Fin 512) : expoV v (ix2 b i) = logExp (v (ix2 b i)) := by
  unfold expoV k0_pay5 logExp
  pointwise

theorem pay6_eq (a0 : Vec Ideal S4x512x1280 .bf16) :
    k0_pay6 a0 = expoV (mulf (maxV a0) (broadcast S4x512 (Scalar.ofBits .f32 0x3B124925#32))) := by
  unfold k0_pay6 expoV maxV
  with_reducible rfl

theorem ratioV_apply (v : FVec Ideal S4x512 .f32) (b : Fin 4) (i : Fin 512) :
    mulf v (broadcast S4x512 (Scalar.ofBits .f32 0x3B124925#32)) (ix2 b i) = v (ix2 b i) * Ideal.ofBits .f32 0x3B124925#32 := by
  pointwise

theorem pay6_apply (a0 : Vec Ideal S4x512x1280 .bf16) (b : Fin 4) (i : Fin 512) :
    k0_pay6 a0 (ix2 b i) = logExp (ratio (frameAt a0 b i)) := by
  rw [pay6_eq, expoV_apply, ratioV_apply, maxV_apply, ratio]

/-- The scales of given exponents. -/
def scaleV (e : FVec Ideal S4x512 .f32) : FVec Ideal S4x512 .f32 := exp (mulf e k0_pay5)

theorem scaleV_apply (e : FVec Ideal S4x512 .f32) (b : Fin 4) (i : Fin 512) :
    scaleV e (ix2 b i) = Ideal.exp (e (ix2 b i) * Ideal.log (Ideal.ofBits .f32 0x40000000#32)) := by
  unfold scaleV k0_pay5
  pointwise

theorem pay7_eq (a0 : Vec Ideal S4x512x1280 .bf16) : k0_pay7 a0 = scaleV (k0_pay6 a0) := by
  unfold k0_pay7 scaleV
  with_reducible rfl

theorem pay7_apply (a0 : Vec Ideal S4x512x1280 .bf16) (b : Fin 4) (i : Fin 512) :
    k0_pay7 a0 (ix2 b i) = refScale (frameAt a0 b i) := by
  rw [pay7_eq, scaleV_apply, pay6_apply, refScale]

/-- The codes at given exponents. -/
def codeV (X : FVec Ideal S4x512x1280 .f32) (e : FVec Ideal S4x512 .f32) : FVec Ideal S4x512x1280 .fp8e4m3 :=
  truncf .fp8e4m3 (minimumf (broadcast S4x512x1280 (Scalar.ofBits .f32 0x43E00000#32))
    (maximumf (broadcast S4x512x1280 (Scalar.ofBits .f32 0xC3E00000#32))
      (mulf X (broadcastTo S4x512x1280
        (shapeCast S4x512x1 (scaleV (subf (broadcast S4x512 (Scalar.ofBits .f32 0x00000000#32)) e)) shapeCasts_S4x512_S4x512x1)
        broadcasts_S4x512x1_S4x512x1280)))) bitsLt_fp8e4m3_f32

theorem codeV_apply (X : FVec Ideal S4x512x1280 .f32) (e : FVec Ideal S4x512 .f32) (b : Fin 4) (i : Fin 512) (k : Fin 1280) :
    codeV X e (ix3 b i k) = min (Ideal.ofBits .f32 0x43E00000#32) (max (Ideal.ofBits .f32 0xC3E00000#32)
      (X (ix3 b i k) * Ideal.exp ((Ideal.ofBits .f32 0x00000000#32 - e (ix2 b i)) * Ideal.log (Ideal.ofBits .f32 0x40000000#32)))) := by
  unfold codeV scaleV k0_pay5
  pointwise

theorem pay8_eq (a0 : Vec Ideal S4x512x1280 .bf16) : k0_pay8 a0 = codeV (k0_pay4 a0) (k0_pay6 a0) := by
  unfold k0_pay8 codeV scaleV
  with_reducible rfl

theorem pay4_apply (a0 : Vec Ideal S4x512x1280 .bf16) (b : Fin 4) (i : Fin 512) (k : Fin 1280) :
    k0_pay4 a0 (ix3 b i k) = frameAt a0 b i k := by
  unfold k0_pay4 frameAt
  pointwise

theorem pay8_apply (a0 : Vec Ideal S4x512x1280 .bf16) (b : Fin 4) (i : Fin 512) (k : Fin 1280) :
    k0_pay8 a0 (ix3 b i k) = refCode (frameAt a0 b i) k := by
  rw [pay8_eq, codeV_apply, pay6_apply, pay4_apply, refCode]

end Read

end Cert.RefRead

end
-- ==== Proof.Precondition.lean ====
/-
  What the precondition says: every activation is at most the largest finite number of its format in magnitude, and every
  channel's scale is at least 0 and finite.
-/
module

public import proofs.«01_k».proof.Defs
public import proofs.«01_k».proof.Proof.Gen.Pre_finite_inputs
public import proofs.«01_k».proof.Proof.RefQuantiser
public import Idealize.ShloMosaic.Lib.Pointwise
public import Idealize.ShloMosaic.Lib.ReduceAll
public import Idealize.ShloMosaic.Lib.WordArith

@[expose] public section

set_option maxRecDepth 16384

noncomputable section

namespace Cert.RefRead

open Idealize.ShloMosaic
open Cert.KernelIdeal.Gen (frameAt)
open Cert.Pre_finite_inputs

variable [Cert.Pre_finite_inputs.Facts]

/-- One entry of a bound on magnitudes. -/
theorem magnitude_bit (X : FVec Ideal S4x512x1280 .f32) (b : Fin 4) (i : Fin 512) (k : Fin 1280)
    (h : cmpf .ole (Host.absf X) (broadcastInDim S4x512x1280 ![] Facts.bcast_S_S4x512x1280 (constant S_ .f32 0x7F7F0000#32)) (ix3 b i k)
      = 1#1) : max (X (ix3 b i k)) (-X (ix3 b i k)) ≤ Ideal.ofBits .f32 0x7F7F0000#32 := by
  have e : cmpf .ole (Host.absf X) (broadcastInDim S4x512x1280 ![] Facts.bcast_S_S4x512x1280 (constant S_ .f32 0x7F7F0000#32)) (ix3 b i k)
      = BitVec.ofBool (decide (max (X (ix3 b i k)) (-X (ix3 b i k)) ≤ Ideal.ofBits .f32 0x7F7F0000#32)) := rfl
  rw [e] at h
  by_contra hc
  rw [decide_eq_false hc] at h
  exact absurd h (by decide)

/-- One entry of the two bounds on the channels' scales. -/
theorem scale_bit (w : FVec Ideal S640 .f32) (o : Fin 640)
    (h : andi (cmpf .oge w (broadcastInDim S640 ![] Facts.bcast_S_S640 (constant S_ .f32 0x00000000#32)))
      (cmpf .olt w (broadcastInDim S640 ![] Facts.bcast_S_S640 (constant S_ .f32 0x7F800000#32))) (ix1 o) = 1#1) :
    0 ≤ w (ix1 o) ∧ w (ix1 o) < ⊤ := by
  have e : andi (cmpf .oge w (broadcastInDim S640 ![] Facts.bcast_S_S640 (constant S_ .f32 0x00000000#32)))
      (cmpf .olt w (broadcastInDim S640 ![] Facts.bcast_S_S640 (constant S_ .f32 0x7F800000#32))) (ix1 o)
      = IntOp.andi (BitVec.ofBool (decide (Ideal.ofBits .f32 0x00000000#32 ≤ w (ix1 o))))
        (BitVec.ofBool (decide (w (ix1 o) < Ideal.ofBits .f32 0x7F800000#32))) := rfl
  rw [e, show Ideal.ofBits .f32 0x00000000#32 = 0 by simp [Ideal.ofBits, Ideal.ieee],
    show Ideal.ofBits .f32 0x7F800000#32 = ⊤ by simp [Ideal.ofBits, Ideal.ieee]] at h
  by_cases h0 : 0 ≤ w (ix1 o)
  · by_cases h1 : w (ix1 o) < ⊤
    · exact ⟨h0, h1⟩
    · rw [decide_eq_true h0, decide_eq_false h1] at h
      exact absurd h (by decide)
  · rw [decide_eq_false h0] at h
    revert h
    cases decide (w (ix1 o) < ⊤) <;> exact fun h => absurd h (by decide)

/-- The precondition, read. -/
theorem pre_read (a0 : FVec Ideal S4x512x1280 .bf16) (a1 : FVec Ideal S12x1280x640 .fp8e4m3) (a2 a3 : FVec Ideal S640 .f32)
    (a4 : FVec Ideal S4x6x640 .f32) (h : Cert.Pre_finite_inputs.fn (F := Ideal) a0 a1 a2 a3 a4 = fun _ => 1#1) :
    (∀ b i, Bounded (frameAt a0 b i)) ∧ ∀ o : Fin 640, 0 ≤ a2 (ix1 o) ∧ a2 (ix1 o) < ⊤ := by
  have h0 := congrFun h (Shape.Idx.first Facts.h_S_)
  dsimp only [Cert.Pre_finite_inputs.fn] at h0
  obtain ⟨hx, hw⟩ := (IntOp.andi_eq_one).mp h0
  refine ⟨fun b i k => ?_, fun o => ?_⟩
  · exact magnitude_bit (extf .f32 a0 Facts.bitsLt_bf16_f32) b i k (Host.reduce_andi_all _ _ _ _ _ hx (ix3 b i k))
  · exact scale_bit a2 o (Host.reduce_andi_all _ _ _ _ _ hw (ix1 o))

end Cert.RefRead

end
-- ==== Proof.RefProducts.lean ====
/-
  The reference's twelve products of the codes with the taps, scaled, read at a frame, a tap and a channel.
-/
module

public import proofs.«01_k».proof.Proof.RefQuantiser

@[expose] public section

set_option maxRecDepth 16384

noncomputable section

namespace Cert.RefRead

open Idealize.ShloMosaic Cert.Exponent
open Cert.KernelIdeal.Gen (frameMax frameExp frameScale frameCode frameAt)
open Cert.ReferenceIdeal Cert.ReferenceIdeal.Gen

/-! ## One product -/

/-- The product of all frames' codes with one tap. -/
def prodV (q : FVec Ideal S2048x1280 .fp8e4m3) (w : FVec Ideal S1x1280x640 .fp8e4m3) : FVec Ideal S4x512x640 .f32 :=
  shapeCast S4x512x640 (matmul dot_S2048x1280_S1280x640_S2048x640_1_0_0_1_n_n none q
    (shapeCast S1280x640 w shapeCasts_S1x1280x640_S1280x640) (constant S2048x640 .f32 0x00000000#32)) shapeCasts_S2048x640_S4x512x640

theorem prodV_apply (X : FVec Ideal S4x512x1280 .fp8e4m3) (w : FVec Ideal S1x1280x640 .fp8e4m3) (b : Fin 4) (i : Fin 512) (o : Fin 640) :
    prodV (shapeCast S2048x1280 X shapeCasts_S4x512x1280_S2048x1280) w (ix3 b i o) = ∑ k : Fin 1280, X (ix3 b i k) * w (ix3 0 k o) := by
  unfold prodV
  pointwise

/-- A tap's block of the weights. -/
def tapAt (a1 : FVec Ideal S12x1280x640 .fp8e4m3) (p : Fin 12) : FVec Ideal S1x1280x640 .fp8e4m3 := fun y => a1 (ix3 p (y 1) (y 2))

/-! ## The twelve side by side -/

/-- Twelve arrays side by side. -/
def tapsV (P : Fin 12 → FVec Ideal S4x512x640 .f32) : FVec Ideal S4x512x12x640 .f32 :=
  concatenate S4x512x12x640 2 [⟨S4x512x1x640, shapeCast S4x512x1x640 (P 0) shapeCasts_S4x512x640_S4x512x1x640⟩,
    ⟨S4x512x1x640, shapeCast S4x512x1x640 (P 1) shapeCasts_S4x512x640_S4x512x1x640⟩,
    ⟨S4x512x1x640, shapeCast S4x512x1x640 (P 2) shapeCasts_S4x512x640_S4x512x1x640⟩,
    ⟨S4x512x1x640, shapeCast S4x512x1x640 (P 3) shapeCasts_S4x512x640_S4x512x1x640⟩,
    ⟨S4x512x1x640, shapeCast S4x512x1x640 (P 4) shapeCasts_S4x512x640_S4x512x1x640⟩,
    ⟨S4x512x1x640, shapeCast S4x512x1x640 (P 5) shapeCasts_S4x512x640_S4x512x1x640⟩,
    ⟨S4x512x1x640, shapeCast S4x512x1x640 (P 6) shapeCasts_S4x512x640_S4x512x1x640⟩,
    ⟨S4x512x1x640, shapeCast S4x512x1x640 (P 7) shapeCasts_S4x512x640_S4x512x1x640⟩,
    ⟨S4x512x1x640, shapeCast S4x512x1x640 (P 8) shapeCasts_S4x512x640_S4x512x1x640⟩,
    ⟨S4x512x1x640, shapeCast S4x512x1x640 (P 9) shapeCasts_S4x512x640_S4x512x1x640⟩,
    ⟨S4x512x1x640, shapeCast S4x512x1x640 (P 10) shapeCasts_S4x512x640_S4x512x1x640⟩,
    ⟨S4x512x1x640, shapeCast S4x512x1x640 (P 11) shapeCasts_S4x512x640_S4x512x1x640⟩]
    concatenates_S4x512x1x640_S4x512x1x640_S4x512x1x640_S4x512x1x640_S4x512x1x640_S4x512x1x640_S4x512x1x640_S4x512x1x640_S4x512x1x640_S4x512x1x640_S4x512x1x640_S4x512x1x640_S4x512x12x640_d2

theorem tapsV_apply (P : Fin 12 → FVec Ideal S4x512x640 .f32) (b : Fin 4) (i : Fin 512) (p : Fin 12) (o : Fin 640) :
    tapsV P (ix4 b i p o) = P p (ix3 b i o) := by
  unfold tapsV
  fin_cases p <;> pointwise

/-- The products, scaled by the frames' scales and the channels'. -/
def scaledV (C : FVec Ideal S4x512x12x640 .f32) (s : FVec Ideal S4x512 .f32) (v0 : FVec Ideal S640 .f32) : FVec Ideal S4x512x12x640 .f32 :=
  mulf (mulf C (broadcastTo S4x512x12x640 (shapeCast S4x512x1x1 s shapeCasts_S4x512_S4x512x1x1) broadcasts_S4x512x1x1_S4x512x12x640))
    (broadcastTo S4x512x12x640 (shapeCast S1x1x1x640 v0 shapeCasts_S640_S1x1x1x640) broadcasts_S1x1x1x640_S4x512x12x640)

theorem scaledV_apply (C : FVec Ideal S4x512x12x640 .f32) (s : FVec Ideal S4x512 .f32) (v0 : FVec Ideal S640 .f32)
    (b : Fin 4) (i : Fin 512) (p : Fin 12) (o : Fin 640) :
    scaledV C s v0 (ix4 b i p o) = (C (ix4 b i p o) * s (ix2 b i)) * v0 (ix1 o) := by
  unfold scaledV
  pointwise

theorem pay18_eq (v0 : Vec Ideal S640 .f32) (v21 : FVec Ideal S4x512 .f32) (v34 : FVec Ideal S2048x1280 .fp8e4m3)
    (v38 v42 v46 v50 v54 v58 v62 v66 : FVec Ideal S4x512x640 .f32) (v67 v71 v75 v79 : Vec Ideal S1x1280x640 .fp8e4m3) :
    k0_pay18 v0 v21 v34 v38 v42 v46 v50 v54 v58 v62 v66 v67 v71 v75 v79
      = scaledV (tapsV ![v38, v42, v46, v50, v54, v58, v62, v66, prodV v34 v67, prodV v34 v71, prodV v34 v75, prodV v34 v79]) v21 v0 := rfl

/-! ## The loads -/

theorem ld_frames (a0 : Vec Ideal S4x512x1280 .bf16) : View.ld a0 r0_2 = a0 := by
  funext y
  idx_vars y
  pointwise

theorem ld_scales (a2 : Vec Ideal S640 .f32) : View.ld a2 r0_0 = a2 := by
  funext y
  idx_vars y
  pointwise

theorem ld_tap (a1 : Vec Ideal S12x1280x640 .fp8e4m3) (p : Fin 12)
    (inb : ∀ a, (![p.val, 0, 0] : Fin 3 → Nat) a + S1x1280x640.size a ≤ S12x1280x640.size a) :
    View.ld a1 (Rect.unit (s := S12x1280x640) ![p.val, 0, 0] S1x1280x640.size inb) = tapAt a1 p := by
  funext y
  idx_vars y
  unfold tapAt
  pointwise

/-! ## All products -/

variable (a0 : Vec Ideal S4x512x1280 .bf16) (a1 : Vec Ideal S12x1280x640 .fp8e4m3) (a2 a3 : Vec Ideal S640 .f32)
  (a4 : Vec Ideal S4x6x640 .f32)

/-- The scaled products, as the reference's values spell them. -/
def allV : FVec Ideal S4x512x12x640 .f32 :=
  k0_pay18 a2 (k0_pay22 a0 a1 a2 a3 a4) (k0_pay23 a0 a1 a2 a3 a4) (k0_pay24 a0 a1 a2 a3 a4) (k0_pay25 a0 a1 a2 a3 a4)
    (k0_pay26 a0 a1 a2 a3 a4) (k0_pay27 a0 a1 a2 a3 a4) (k0_pay28 a0 a1 a2 a3 a4) (k0_pay29 a0 a1 a2 a3 a4)
    (k0_pay30 a0 a1 a2 a3 a4) (k0_pay31 a0 a1 a2 a3 a4) (View.ld a1 r0_11) (View.ld a1 r0_12) (View.ld a1 r0_13) (View.ld a1 r0_14)

theorem pay22_eq : k0_pay22 a0 a1 a2 a3 a4 = k0_pay7 a0 := congrArg k0_pay7 (ld_frames a0)

theorem pay23_eq : k0_pay23 a0 a1 a2 a3 a4 = k0_pay9 a0 := congrArg k0_pay9 (ld_frames a0)

theorem prod10 (X : Vec Ideal S4x512x1280 .bf16) (w : Vec Ideal S1x1280x640 .fp8e4m3) : k0_pay10 X w = prodV (k0_pay9 X) w := by
  unfold k0_pay10 prodV
  with_reducible rfl

/-- The codes, all frames in one column. -/
abbrev codes (a0 : Vec Ideal S4x512x1280 .bf16) : FVec Ideal S2048x1280 .fp8e4m3 := k0_pay9 a0

theorem prods_eq : (![k0_pay24 a0 a1 a2 a3 a4, k0_pay25 a0 a1 a2 a3 a4, k0_pay26 a0 a1 a2 a3 a4, k0_pay27 a0 a1 a2 a3 a4,
      k0_pay28 a0 a1 a2 a3 a4, k0_pay29 a0 a1 a2 a3 a4, k0_pay30 a0 a1 a2 a3 a4, k0_pay31 a0 a1 a2 a3 a4,
      prodV (k0_pay9 a0) (View.ld a1 r0_11), prodV (k0_pay9 a0) (View.ld a1 r0_12), prodV (k0_pay9 a0) (View.ld a1 r0_13),
      prodV (k0_pay9 a0) (View.ld a1 r0_14)] : Fin 12 → FVec Ideal S4x512x640 .f32) = fun p => prodV (k0_pay9 a0) (tapAt a1 p) := by
  unfold k0_pay24 k0_pay25 k0_pay26 k0_pay27 k0_pay28 k0_pay29 k0_pay30 k0_pay31
  rw [pay23_eq, ld_frames, prod10]
  generalize k0_pay9 a0 = q
  funext p
  fin_cases p
  · exact congrArg (prodV q) (ld_tap a1 0 _)
  · exact congrArg (k0_pay11 q) (ld_tap a1 1 _)
  · exact congrArg (k0_pay12 q) (ld_tap a1 2 _)
  · exact congrArg (k0_pay13 q) (ld_tap a1 3 _)
  · exact congrArg (k0_pay14 q) (ld_tap a1 4 _)
  · exact congrArg (k0_pay15 q) (ld_tap a1 5 _)
  · exact congrArg (k0_pay16 q) (ld_tap a1 6 _)
  · exact congrArg (k0_pay17 q) (ld_tap a1 7 _)
  · exact congrArg (prodV q) (ld_tap a1 8 _)
  · exact congrArg (prodV q) (ld_tap a1 9 _)
  · exact congrArg (prodV q) (ld_tap a1 10 _)
  · exact congrArg (prodV q) (ld_tap a1 11 _)

/-- The scale the reference gives a frame times its codes against a tap. -/
def refProd (b : Fin 4) (i : Fin 512) (p : Fin 12) (o : Fin 640) : EReal :=
  (∑ k : Fin 1280, refCode (frameAt a0 b i) k * a1 (ix3 p k o)) * refScale (frameAt a0 b i)

theorem prodCodes_apply (p : Fin 12) (b : Fin 4) (i : Fin 512) (o : Fin 640) :
    prodV (k0_pay9 a0) (tapAt a1 p) (ix3 b i o) = ∑ k : Fin 1280, refCode (frameAt a0 b i) k * a1 (ix3 p k o) := by
  unfold k0_pay9
  rw [prodV_apply]
  refine Finset.sum_congr rfl fun k _ => ?_
  rw [pay8_apply]
  rfl

theorem allV_apply (b : Fin 4) (i : Fin 512) (p : Fin 12) (o : Fin 640) :
    allV a0 a1 a2 a3 a4 (ix4 b i p o) = refProd a0 a1 b i p o * a2 (ix1 o) := by
  unfold allV refProd
  rw [pay18_eq, pay22_eq, pay23_eq, prods_eq, scaledV_apply, tapsV_apply, prodCodes_apply, pay7_apply]

/-! ## The results -/

/-- The first six samples of scaled products. -/
def firstV (C : FVec Ideal S4x512x12x640 .f32) : Vec Ideal S4x6x640 .bf16 :=
  truncf .bf16 (addf (addf (shapeCast S4x6x640 (extractStridedSlice S4x1x6x640 ![0, 0, 0, 0]
      (extractStridedSlice S4x512x6x640 ![0, 0, 0, 0] C slices_S4x512x12x640_o0_0_0_0_S4x512x6x640)
      slices_S4x512x6x640_o0_0_0_0_S4x1x6x640) shapeCasts_S4x1x6x640_S4x6x640) a4)
    (broadcastTo S4x6x640 (shapeCast S1x1x640 a3 shapeCasts_S640_S1x1x640) broadcasts_S1x1x640_S4x6x640)) bitsLt_bf16_f32

theorem firstV_apply (C : FVec Ideal S4x512x12x640 .f32) (b : Fin 4) (h : Fin 6) (o : Fin 640) :
    firstV a3 a4 C (ix3 b h o) = (C (ix4 b 0 ⟨h.val, by omega⟩ o) + a4 (ix3 b h o)) + a3 (ix1 o) := by
  unfold firstV
  pointwise

theorem G5_eq : Cert.ReferenceIdeal.Value.G5 a0 a1 a2 a3 a4 = firstV a3 a4 (allV a0 a1 a2 a3 a4) := by
  unfold Cert.ReferenceIdeal.Value.G5 firstV allV k0_pay21 k0_pay19
  with_reducible rfl

theorem pay32_eq : k0_pay32 a0 a1 a2 a3 a4 = extractStridedSlice S4x512x6x640 ![0, 0, 6, 0] (allV a0 a1 a2 a3 a4)
    slices_S4x512x12x640_o0_0_6_0_S4x512x6x640 := by
  unfold k0_pay32
  rw [ld_scales]
  unfold k0_pay20 allV
  with_reducible rfl

/-- The samples after the first six, of scaled products. -/
def restV (C : FVec Ideal S4x512x12x640 .f32) : Vec Ideal S4x3066x640 .bf16 :=
  k0_pay1 a3 (extractStridedSlice S4x512x6x640 ![0, 0, 0, 0] C slices_S4x512x12x640_o0_0_0_0_S4x512x6x640)
    (extractStridedSlice S4x512x6x640 ![0, 0, 6, 0] C slices_S4x512x12x640_o0_0_6_0_S4x512x6x640)

theorem restV_apply (C : FVec Ideal S4x512x12x640 .f32) (b : Fin 4) (r : Fin 3066) (o : Fin 640) :
    restV a3 C (ix3 b r o) = (C (ix4 b ⟨1 + r.val / 6, by omega⟩ ⟨r.val % 6, by omega⟩ o)
      + C (ix4 b ⟨r.val / 6, by omega⟩ ⟨6 + r.val % 6, by omega⟩ o)) + a3 (ix1 o) := by
  unfold restV k0_pay1
  pointwise

theorem G6_eq : Cert.ReferenceIdeal.Value.G6 a0 a1 a2 a3 a4 = restV a3 (allV a0 a1 a2 a3 a4) := by
  unfold Cert.ReferenceIdeal.Value.G6
  rw [pay32_eq]
  unfold restV allV k0_pay19
  with_reducible rfl

/-- The samples carried on, of scaled products. -/
def tailV (C : FVec Ideal S4x512x12x640 .f32) : Vec Ideal S4x6x640 .f32 :=
  k0_pay2 (extractStridedSlice S4x512x6x640 ![0, 0, 6, 0] C slices_S4x512x12x640_o0_0_6_0_S4x512x6x640)

theorem tailV_apply (C : FVec Ideal S4x512x12x640 .f32) (b : Fin 4) (h : Fin 6) (o : Fin 640) :
    tailV C (ix3 b h o) = C (ix4 b 511 ⟨6 + h.val, by omega⟩ o) := by
  unfold tailV k0_pay2
  pointwise

theorem G7_eq : Cert.ReferenceIdeal.Value.G7 a0 a1 a2 a3 a4 = tailV (allV a0 a1 a2 a3 a4) := by
  unfold Cert.ReferenceIdeal.Value.G7
  rw [pay32_eq]
  unfold tailV
  with_reducible rfl

theorem scalesRow_apply (s : FVec Ideal S4x512 .f32) (b : Fin 4) (i : Fin 512) : k0_pay3 s (ix3 b 0 i) = s (ix2 b i) := by
  unfold k0_pay3
  pointwise

end Cert.RefRead

end
-- ==== Proof.RefValues.lean ====
/-
  The reference's five results are the kernel's, on inputs the precondition admits.
-/
module

public import proofs.«01_k».proof.Proof.RefProducts

@[expose] public section

set_option maxRecDepth 16384

noncomputable section

namespace Cert.RefRead

open Idealize.ShloMosaic Cert.Exponent
open Cert.KernelIdeal.Gen (frameMax frameExp frameScale frameCode frameAt tapProd firstA restA tailA codesA scalesA)
open Cert.ReferenceIdeal Cert.ReferenceIdeal.Gen

variable (a0 : Vec Ideal S4x512x1280 .bf16) (a1 : Vec Ideal S12x1280x640 .fp8e4m3) (a2 a3 : Vec Ideal S640 .f32)
  (a4 : Vec Ideal S4x6x640 .f32)

/-- The products agree. -/
theorem refProd_eq (hx : ∀ b i, Bounded (frameAt a0 b i)) (b : Fin 4) (i : Fin 512) (p : Fin 12) (o : Fin 640) :
    refProd a0 a1 b i p o = tapProd a0 a1 b i p o := by
  unfold refProd tapProd
  rw [refScale_eq (hx b i)]
  refine congrArg (· * _) (Finset.sum_congr rfl fun k _ => ?_)
  rw [refCode_eq (hx b i)]

/-- The first six samples agree. -/
theorem first_eq (hx : ∀ b i, Bounded (frameAt a0 b i)) : Cert.ReferenceIdeal.Value.G5 a0 a1 a2 a3 a4 = firstA a0 a1 a2 a3 a4 := by
  funext y
  idx_vars y
  rw [G5_eq, firstV_apply, allV_apply, refProd_eq a0 a1 hx]
  rfl

/-- The samples after the first six agree: the channel's scale, not negative and finite, multiplies a sum term by term. -/
theorem rest_eq (hx : ∀ b i, Bounded (frameAt a0 b i)) (hw : ∀ o : Fin 640, 0 ≤ a2 (ix1 o) ∧ a2 (ix1 o) < ⊤) :
    Cert.ReferenceIdeal.Value.G6 a0 a1 a2 a3 a4 = restA a0 a1 a2 a3 := by
  funext y
  idx_vars y
  rw [G6_eq, restV_apply, allV_apply, allV_apply, refProd_eq a0 a1 hx, refProd_eq a0 a1 hx,
    ← EReal.right_distrib_of_nonneg_of_ne_top (hw _).1 (hw _).2.ne]
  unfold restA
  refine congrArg (fun z => (z + _) * _ + _) ?_
  exact congrArg (fun i => tapProd a0 a1 _ i _ _) (Fin.ext (Nat.add_comm _ _))

/-- The samples carried on agree. -/
theorem tail_eq (hx : ∀ b i, Bounded (frameAt a0 b i)) : Cert.ReferenceIdeal.Value.G7 a0 a1 a2 a3 a4 = tailA a0 a1 a2 := by
  funext y
  idx_vars y
  rw [G7_eq, tailV_apply, allV_apply, refProd_eq a0 a1 hx]
  rfl

/-- The codes agree. -/
theorem codes_eq (hx : ∀ b i, Bounded (frameAt a0 b i)) : Cert.ReferenceIdeal.Value.G8 a0 a1 a2 a3 a4 = codesA a0 := by
  funext y
  idx_vars y
  unfold Cert.ReferenceIdeal.Value.G8
  rw [pay8_apply, refCode_eq (hx _ _)]
  rfl

/-- The scales agree. -/
theorem scales_eq (hx : ∀ b i, Bounded (frameAt a0 b i)) : Cert.ReferenceIdeal.Value.G9 a0 a1 a2 a3 a4 = scalesA a0 := by
  funext y
  idx_vars y
  obtain rfl : y1 = 0 := Subsingleton.elim _ _
  unfold Cert.ReferenceIdeal.Value.G9
  rw [pay22_eq, scalesRow_apply, pay7_apply, refScale_eq (hx _ _)]
  rfl

end Cert.RefRead

end
-- ==== Proof.Algebraic.lean ====
/-
  The kernel and the reference end with equal results.
-/
module

public import proofs.«01_k».proof.Proof.Precondition
public import proofs.«01_k».proof.Proof.RefValues

@[expose] public section

set_option maxRecDepth 16384

noncomputable section

open Idealize.ShloMosaic Idealize.ShloMosaic.TcCoe
open Idealize.SL.Sem

namespace Cert.KernelIdeal.Gen

variable (m : (ℓ : Loc nD τ sig) → Buf (Elt Ideal) ℓ) (ρ : Dev nD → PrngReg)

/-- The kernel's run, read: each result array is its function of the argument arrays, and those are unchanged. -/
theorem run_values : θ_run (defs (F := Ideal)) (onTc (τ := τ) (main (F := Ideal))) ⟨m, fun _ => 0, ρ⟩ (fun r => ∀ c : Dev nD,
      r.2.mem ((c.tc : Thread nD τ).loc main_v2_0) = firstA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v2_1) = restA (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v2_2) = tailA (m ((c.tc : Thread nD τ).loc main_arg0)) (m ((c.tc : Thread nD τ).loc main_arg1)) (m ((c.tc : Thread nD τ).loc main_arg2))
      ∧ r.2.mem ((c.tc : Thread nD τ).loc main_v2_3) = codesA (m ((c.tc : Thread nD τ).loc main_arg0))
      ∧ r.2.mem ((c.tc : Thread nD τ).loc main_v2_4) = scalesA (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 5).trans (final5 m c), ((h.1 c).1 6).trans (final6 m c), ((h.1 c).1 7).trans (final7 m c),
      ((h.1 c).1 8).trans (final8 m c), ((h.1 c).1 9).trans (final9 m c), h.2 c⟩)
    (θ_run_and (run_main m ρ) (unchanged m ρ))

end Cert.KernelIdeal.Gen

namespace Cert.RefRead

open Cert.KernelIdeal.Gen (firstA restA tailA codesA scalesA)

/-- From memories that agree on the arguments, the precondition holding, both runs end with the same five results. -/
theorem algebraic [hP : Cert.Pre_finite_inputs.Facts] : Cert.algebraic_KernelIdeal_ReferenceIdeal_pre_finite_inputs := by
  intro m g m' g' hpre hargs
  refine ⟨fun c => firstA (m ((c.tc : Thread KernelIdeal.nD KernelIdeal.τ).loc KernelIdeal.main_arg0)) (m ((c.tc : Thread KernelIdeal.nD KernelIdeal.τ).loc KernelIdeal.main_arg1)) (m ((c.tc : Thread KernelIdeal.nD KernelIdeal.τ).loc KernelIdeal.main_arg2)) (m ((c.tc : Thread KernelIdeal.nD KernelIdeal.τ).loc KernelIdeal.main_arg3)) (m ((c.tc : Thread KernelIdeal.nD KernelIdeal.τ).loc KernelIdeal.main_arg4)),
    fun c => restA (m ((c.tc : Thread KernelIdeal.nD KernelIdeal.τ).loc KernelIdeal.main_arg0)) (m ((c.tc : Thread KernelIdeal.nD KernelIdeal.τ).loc KernelIdeal.main_arg1)) (m ((c.tc : Thread KernelIdeal.nD KernelIdeal.τ).loc KernelIdeal.main_arg2)) (m ((c.tc : Thread KernelIdeal.nD KernelIdeal.τ).loc KernelIdeal.main_arg3)),
    fun c => tailA (m ((c.tc : Thread KernelIdeal.nD KernelIdeal.τ).loc KernelIdeal.main_arg0)) (m ((c.tc : Thread KernelIdeal.nD KernelIdeal.τ).loc KernelIdeal.main_arg1)) (m ((c.tc : Thread KernelIdeal.nD KernelIdeal.τ).loc KernelIdeal.main_arg2)),
    fun c => codesA (m ((c.tc : Thread KernelIdeal.nD KernelIdeal.τ).loc KernelIdeal.main_arg0)),
    fun c => scalesA (m ((c.tc : Thread KernelIdeal.nD KernelIdeal.τ).loc KernelIdeal.main_arg0)),
    Cert.KernelIdeal.Gen.run_values m g, ?_⟩
  refine (θ_run Cert.ReferenceIdeal.defs _ _).mono (fun r h c => ?_) (Cert.ReferenceIdeal.Value.run m' g')
  obtain ⟨h0, h1, h2, h3, h4, hk⟩ := h c
  obtain ⟨e0, e1, e2, e3, e4⟩ := hargs c
  obtain ⟨hx, hw⟩ := pre_read _ _ _ _ _ (hpre c)
  rw [e0, e1, e2, e3, e4] at h0 h1 h2 h3 h4
  exact ⟨h0.trans (first_eq _ _ _ _ _ hx), h1.trans (rest_eq _ _ _ _ _ hx hw), h2.trans (tail_eq _ _ _ _ _ hx),
    h3.trans (codes_eq _ _ _ _ _ hx), h4.trans (scales_eq _ _ _ _ _ hx), hk⟩

end Cert.RefRead

end
-- ==== Proof.lean ====
module

public import proofs.«01_k».proof.Defs
public import proofs.«01_k».proof.Proof.KernelFrame
public import proofs.«01_k».proof.Proof.Gen.KernelIdeal.Frame
public import proofs.«01_k».proof.Proof.Gen.KernelIdeal.Skeleton
public import proofs.«01_k».proof.Proof.Gen.ReferenceIdeal.Frame
public import proofs.«01_k».proof.Proof.Gen.ReferenceIdeal.Value
public import proofs.«01_k».proof.Proof.Gen.Pre_finite_inputs
public import proofs.«01_k».proof.Proof.Body
public import proofs.«01_k».proof.Proof.Algebraic
public import Idealize.ShloMosaic.Lib.Bf16Pair

@[expose] public section

open Idealize.ShloMosaic

/-- The frames of the kernel, of the ideal kernel and of the ideal reference, that the ideal pass changed nothing, and that
    on finite inputs the ideal kernel and the ideal reference end with equal results. -/
theorem Cert.Proof.claim : Cert.Claim :=
  ⟨Cert.Kernel.Gen.facts, Cert.KernelIdeal.Gen.facts, Cert.ReferenceIdeal.Gen.facts, Cert.Pre_finite_inputs.Gen.facts,
    fun m ρ _ => Cert.Kernel.FrameRun.frame m ρ,
    fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ,
    ⟨IdealRules.bf16_pair.packStatement _, IdealRules.bf16_pair.statement _ _, IdealRules.bf16_pair.statement _ _⟩,
    Cert.RefRead.algebraic⟩
